-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S512x512 : Shape := ⟨2, ![512, 512]⟩
abbrev S512 : Shape := ⟨1, ![512]⟩
abbrev S512x64 : Shape := ⟨2, ![512, 64]⟩
abbrev S_ : Shape := ⟨0, ![]⟩

class Facts : Prop where
  bcast_S_S4x2048x512 : S_.BroadcastsInDim S4x2048x512 (![] : Fin 0 → Fin S4x2048x512.rank)
  bcast_S_S512x512 : S_.BroadcastsInDim S512x512 (![] : Fin 0 → Fin S512x512.rank)
  bcast_S_S512 : S_.BroadcastsInDim S512 (![] : Fin 0 → Fin S512.rank)
  bcast_S_S512x64 : S_.BroadcastsInDim S512x64 (![] : Fin 0 → Fin S512x64.rank)

variable [Facts]

def fn_part1 {F : FTy → Type} [FloatOps F] (main_v2 : IVec S4x2048x512 1) (main_v5 : IVec S512x512 1) (main_v8 : IVec S512 1) (main_v10 : IVec S512x64 1) (main_v13 : IVec S512x64 1) (main_v16 : IVec S512x64 1) (main_v17 : FVec F S512 .f32) : IVec S4x2048x512 1 × IVec S512x512 1 × IVec S512 1 × IVec S512x64 1 × IVec S512x64 1 × IVec S512x64 1 × IVec S512 1 :=
  let main_cst_5 : FVec F S_ .f32 := constant S_ .f32 0x7F800000#32
  let main_v18 : FVec F S512 .f32 := broadcastInDim S512 ![] bcast_S_S512 main_cst_5
  let main_v19 : IVec S512 1 := cmpf .olt main_v17 main_v18
  (main_v2, main_v5, main_v8, main_v10, main_v13, main_v16, main_v19)

def fn {F : FTy → Type} [FloatOps F] (main_arg0 : FVec F S4x2048x512 .f32) (main_arg1 : FVec F S512x512 .f32) (main_arg2 : FVec F S512 .f32) (main_arg3 : FVec F S512x64 .f32) (main_arg4 : FVec F S512x64 .f32) (main_arg5 : FVec F S512x64 .f32) (main_arg6 : FVec F S512 .f32) (main_arg7 : FVec F S512 .f32) (main_arg8 : FVec F S512x512 .f32) (main_arg9 : FVec F S512 .f32) : IVec S4x2048x512 1 × IVec S512x512 1 × IVec S512 1 × IVec S512x64 1 × IVec S512x64 1 × IVec S512x64 1 × IVec S512 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_v3 : FVec F S512x512 .f32 := Host.absf main_arg1
  let main_cst_0 : FVec F S_ .f32 := constant S_ .f32 0x7F800000#32
  let main_v4 : FVec F S512x512 .f32 := broadcastInDim S512x512 ![] bcast_S_S512x512 main_cst_0
  let main_v5 : IVec S512x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_cst_2 : FVec F S_ .f32 := constant S_ .f32 0x7F800000#32
  let main_v9 : FVec F S512x64 .f32 := broadcastInDim S512x64 ![] bcast_S_S512x64 main_cst_2
  let main_v10 : IVec S512x64 1 := cmpf .olt main_arg3 main_v9
  let main_v11 : FVec F S512x64 .f32 := Host.absf main_arg4
  let main_cst_3 : FVec F S_ .f32 := constant S_ .f32 0x7F800000#32
  let main_v12 : FVec F S512x64 .f32 := broadcastInDim S512x64 ![] bcast_S_S512x64 main_cst_3
  let main_v13 : IVec S512x64 1 := cmpf .olt main_v11 main_v12
  let main_v14 : FVec F S512x64 .f32 := Host.absf main_arg5
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  let main_v17 : FVec F S512 .f32 := Host.absf main_arg7
  fn_part1 (F := F) main_v2 main_v5 main_v8 main_v10 main_v13 main_v16 main_v17
-- ==== Kernel.lean ====
abbrev S4x2048x512 : Shape := ⟨3, ![4, 2048, 512]⟩
abbrev S512x512 : Shape := ⟨2, ![512, 512]⟩
abbrev S512 : Shape := ⟨1, ![512]⟩
abbrev S512x64 : Shape := ⟨2, ![512, 64]⟩
abbrev S512x1 : Shape := ⟨2, ![512, 1]⟩
abbrev S1x512 : Shape := ⟨2, ![1, 512]⟩
abbrev S512x64x128 : Shape := ⟨3, ![512, 64, 128]⟩
abbrev S1x2048x512 : Shape := ⟨3, ![1, 2048, 512]⟩
abbrev S256x512 : Shape := ⟨2, ![256, 512]⟩
abbrev S256x1 : Shape := ⟨2, ![256, 1]⟩
abbrev S256x16x128 : Shape := ⟨3, ![256, 16, 128]⟩
abbrev S2048x512 : Shape := ⟨2, ![2048, 512]⟩
abbrev S256x2048 : Shape := ⟨2, ![256, 2048]⟩
abbrev S256x128 : Shape := ⟨2, ![256, 128]⟩
abbrev S256x1x128 : Shape := ⟨3, ![256, 1, 128]⟩
abbrev S64x64x128 : Shape := ⟨3, ![64, 64, 128]⟩
abbrev S64x64 : Shape := ⟨2, ![64, 64]⟩
abbrev S64x1 : Shape := ⟨2, ![64, 1]⟩
abbrev S128x64 : Shape := ⟨2, ![128, 64]⟩
abbrev S128x128 : Shape := ⟨2, ![128, 128]⟩
abbrev S1x64 : Shape := ⟨2, ![1, 64]⟩
abbrev S1x64x128 : Shape := ⟨3, ![1, 64, 128]⟩
abbrev S64x128 : Shape := ⟨2, ![64, 128]⟩
abbrev S63x64 : Shape := ⟨2, ![63, 64]⟩
abbrev S2x64 : Shape := ⟨2, ![2, 64]⟩
abbrev S62x64 : Shape := ⟨2, ![62, 64]⟩
abbrev S4x64 : Shape := ⟨2, ![4, 64]⟩
abbrev S60x64 : Shape := ⟨2, ![60, 64]⟩
abbrev S8x64 : Shape := ⟨2, ![8, 64]⟩
abbrev S56x64 : Shape := ⟨2, ![56, 64]⟩
abbrev S1x1 : Shape := ⟨2, ![1, 1]⟩
abbrev S512x8192 : Shape := ⟨2, ![512, 8192]⟩
abbrev S512x2048 : Shape := ⟨2, ![512, 2048]⟩
abbrev S1x256 : Shape := ⟨2, ![1, 256]⟩
abbrev S1x2048x256 : Shape := ⟨3, ![1, 2048, 256]⟩
abbrev S2048x256 : Shape := ⟨2, ![2048, 256]⟩

abbrev nBuf : Space → Nat
  | .hbm => 18
  | .vmem => 30
  | .smem => 0
  | _ => 0

abbrev bufTy : (tb : Table) → Fin (tcTables nBuf tb) → BufTy
  | .hbm, ⟨0, _⟩ => ⟨S4x2048x512, .f32⟩
  | .hbm, ⟨1, _⟩ => ⟨S512x512, .f32⟩
  | .hbm, ⟨2, _⟩ => ⟨S512, .f32⟩
  | .hbm, ⟨3, _⟩ => ⟨S512x64, .f32⟩
  | .hbm, ⟨4, _⟩ => ⟨S512x64, .f32⟩
  | .hbm, ⟨5, _⟩ => ⟨S512x64, .f32⟩
  | .hbm, ⟨6, _⟩ => ⟨S512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S1x512, .f32⟩
  | .hbm, ⟨14, _⟩ => ⟨S512x64x128, .f32⟩
  | .hbm, ⟨15, _⟩ => ⟨S512x64x128, .bf16⟩
  | .hbm, ⟨16, _⟩ => ⟨S512x8192, .bf16⟩
  | .hbm, ⟨17, _⟩ => ⟨S4x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S256x512, .f32⟩
  | .local _ .vmem, ⟨3, _⟩ => ⟨S256x512, .f32⟩
  | .local _ .vmem, ⟨4, _⟩ => ⟨S256x1, .f32⟩
  | .local _ .vmem, ⟨5, _⟩ => ⟨S256x1, .f32⟩
  | .local _ .vmem, ⟨6, _⟩ => ⟨S256x16x128, .f32⟩
  | .local _ .vmem, ⟨7, _⟩ => ⟨S256x16x128, .f32⟩
  | .local _ .vmem, ⟨8, _⟩ => ⟨S64x64x128, .f32⟩
  | .local _ .vmem, ⟨9, _⟩ => ⟨S64x64x128, .f32⟩
  | .local _ .vmem, ⟨10, _⟩ => ⟨S64x64, .f32⟩
  | .local _ .vmem, ⟨11, _⟩ => ⟨S64x64, .f32⟩
  | .local _ .vmem, ⟨12, _⟩ => ⟨S64x64, .f32⟩
  | .local _ .vmem, ⟨13, _⟩ => ⟨S64x64, .f32⟩
  | .local _ .vmem, ⟨14, _⟩ => ⟨S64x64, .f32⟩
  | .local _ .vmem, ⟨15, _⟩ => ⟨S64x64, .f32⟩
  | .local _ .vmem, ⟨16, _⟩ => ⟨S64x1, .f32⟩
  | .local _ .vmem, ⟨17, _⟩ => ⟨S64x1, .f32⟩
  | .local _ .vmem, ⟨18, _⟩ => ⟨S64x1, .f32⟩
  | .local _ .vmem, ⟨19, _⟩ => ⟨S64x1, .f32⟩
  | .local _ .vmem, ⟨20, _⟩ => ⟨S64x64x128, .bf16⟩
  | .local _ .vmem, ⟨21, _⟩ => ⟨S64x64x128, .bf16⟩
  | .local _ .vmem, ⟨22, _⟩ => ⟨S512x2048, .bf16⟩
  | .local _ .vmem, ⟨23, _⟩ => ⟨S512x2048, .bf16⟩
  | .local _ .vmem, ⟨24, _⟩ => ⟨S256x512, .f32⟩
  | .local _ .vmem, ⟨25, _⟩ => ⟨S256x512, .f32⟩
  | .local _ .vmem, ⟨26, _⟩ => ⟨S1x256, .f32⟩
  | .local _ .vmem, ⟨27, _⟩ => ⟨S1x256, .f32⟩
  | .local _ .vmem, ⟨28, _⟩ => ⟨S1x2048x256, .f32⟩
  | .local _ .vmem, ⟨29, _⟩ => ⟨S1x2048x256, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S64x64x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S256x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== ReferenceIdeal.lean ====
abbrev S4x2048x512 : Shape := ⟨3, ![4, 2048, 512]⟩
abbrev S512x512 : Shape := ⟨2, ![512, 512]⟩
abbrev S512 : Shape := ⟨1, ![512]⟩
abbrev S512x64 : Shape := ⟨2, ![512, 64]⟩
abbrev S1x1x512 : Shape := ⟨3, ![1, 1, 512]⟩
abbrev S4x512x2048 : Shape := ⟨3, ![4, 512, 2048]⟩
abbrev S512x1 : Shape := ⟨2, ![512, 1]⟩
abbrev S2048 : Shape := ⟨1, ![2048]⟩
abbrev S512x64x1 : Shape := ⟨3, ![512, 64, 1]⟩
abbrev S1x1x2048 : Shape := ⟨3, ![1, 1, 2048]⟩
abbrev S512x64x2048 : Shape := ⟨3, ![512, 64, 2048]⟩
abbrev S512x2048 : Shape := ⟨2, ![512, 2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S512x2048x2048 : Shape := ⟨3, ![512, 2048, 2048]⟩
abbrev S512x4x2048 : Shape := ⟨3, ![512, 4, 2048]⟩
abbrev S1x512x1 : Shape := ⟨3, ![1, 512, 1]⟩

abbrev nBuf : Space → Nat
  | .hbm => 72
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S512x512, .f32⟩
  | .hbm, ⟨2, _⟩ => ⟨S512, .f32⟩
  | .hbm, ⟨3, _⟩ => ⟨S512x64, .f32⟩
  | .hbm, ⟨4, _⟩ => ⟨S512x64, .f32⟩
  | .hbm, ⟨5, _⟩ => ⟨S512x64, .f32⟩
  | .hbm, ⟨6, _⟩ => ⟨S512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S4x2048x512, .f32⟩
  | .hbm, ⟨12, _⟩ => ⟨S1x1x512, .f32⟩
  | .hbm, ⟨13, _⟩ => ⟨S4x2048x512, .f32⟩
  | .hbm, ⟨14, _⟩ => ⟨S4x2048x512, .f32⟩
  | .hbm, ⟨15, _⟩ => ⟨S4x512x2048, .f32⟩
  | .hbm, ⟨16, _⟩ => ⟨S512x64, .f32⟩
  | .hbm, ⟨17, _⟩ => ⟨S512x64, .f32⟩
  | .hbm, ⟨18, _⟩ => ⟨S512x64, .f32⟩
  | .hbm, ⟨19, _⟩ => ⟨S512x1, .f32⟩
  | .hbm, ⟨20, _⟩ => ⟨S512x64, .f32⟩
  | .hbm, ⟨21, _⟩ => ⟨S512x64, .f32⟩
  | .hbm, ⟨22, _⟩ => ⟨S512x1, .f32⟩
  | .hbm, ⟨23, _⟩ => ⟨S512x64, .f32⟩
  | .hbm, ⟨24, _⟩ => ⟨S512x64, .f32⟩
  | .hbm, ⟨25, _⟩ => ⟨S2048, .f32⟩
  | .hbm, ⟨26, _⟩ => ⟨S512x64x1, .f32⟩
  | .hbm, ⟨27, _⟩ => ⟨S1x1x2048, .f32⟩
  | .hbm, ⟨28, _⟩ => ⟨S512x64x2048, .f32⟩
  | .hbm, ⟨29, _⟩ => ⟨S512x64x2048, .f32⟩
  | .hbm, ⟨30, _⟩ => ⟨S512x64x2048, .f32⟩
  | .hbm, ⟨31, _⟩ => ⟨S512x64x2048, .f32⟩
  | .hbm, ⟨32, _⟩ => ⟨S512x2048, .f32⟩
  | .hbm, ⟨33, _⟩ => ⟨S2048, .i32⟩
  | .hbm, ⟨34, _⟩ => ⟨S2048x1, .i32⟩
  | .hbm, ⟨35, _⟩ => ⟨S1x2048, .i32⟩
  | .hbm, ⟨36, _⟩ => ⟨S2048x2048, .i32⟩
  | .hbm, ⟨37, _⟩ => ⟨S2048x2048, .i32⟩
  | .hbm, ⟨38, _⟩ => ⟨S2048x2048, .i32⟩
  | .hbm, ⟨39, _⟩ => ⟨S_, .i32⟩
  | .hbm, ⟨40, _⟩ => ⟨S2048x2048, .i32⟩
  | .hbm, ⟨41, _⟩ => ⟨S2048x2048, .i1⟩
  | .hbm, ⟨42, _⟩ => ⟨S_, .i32⟩
  | .hbm, ⟨43, _⟩ => ⟨S2048x2048, .i32⟩
  | .hbm, ⟨44, _⟩ => ⟨S2048x2048, .i32⟩
  | .hbm, ⟨45, _⟩ => ⟨S_, .i32⟩
  | .hbm, ⟨46, _⟩ => ⟨S2048x2048, .i32⟩
  | .hbm, ⟨47, _⟩ => ⟨S2048x2048, .i1⟩
  | .hbm, ⟨48, _⟩ => ⟨S_, .i32⟩
  | .hbm, ⟨49, _⟩ => ⟨S2048x2048, .i32⟩
  | .hbm, ⟨50, _⟩ => ⟨S2048x2048, .i32⟩
  | .hbm, ⟨51, _⟩ => ⟨S2048x2048, .i32⟩
  | .hbm, ⟨52, _⟩ => ⟨S2048x2048x1, .i32⟩
  | .hbm, ⟨53, _⟩ => ⟨S512x2048x2048, .f32⟩
  | .hbm, ⟨54, _⟩ => ⟨S_, .f32⟩
  | .hbm, ⟨55, _⟩ => ⟨S_, .f32⟩
  | .hbm, ⟨56, _⟩ => ⟨S512x2048x2048, .i1⟩
  | .hbm, ⟨57, _⟩ => ⟨S512x2048x2048, .f32⟩
  | .hbm, ⟨58, _⟩ => ⟨S512x2048x2048, .f32⟩
  | .hbm, ⟨59, _⟩ => ⟨S512x4x2048, .f32⟩
  | .hbm, ⟨60, _⟩ => ⟨S4x512x2048, .f32⟩
  | .hbm, ⟨61, _⟩ => ⟨S512x1, .f32⟩
  | .hbm, ⟨62, _⟩ => ⟨S1x512x1, .f32⟩
  | .hbm, ⟨63, _⟩ => ⟨S4x512x2048, .f32⟩
  | .hbm, ⟨64, _⟩ => ⟨S4x512x2048, .f32⟩
  | .hbm, ⟨65, _⟩ => ⟨S4x512x2048, .f32⟩
  | .hbm, ⟨66, _⟩ => ⟨S4x2048x512, .f32⟩
  | .hbm, ⟨67, _⟩ => ⟨S512x512, .f32⟩
  | .hbm, ⟨68, _⟩ => ⟨S4x2048x512, .f32⟩
  | .hbm, ⟨69, _⟩ => ⟨S1x1x512, .f32⟩
  | .hbm, ⟨70, _⟩ => ⟨S4x2048x512, .f32⟩
  | .hbm, ⟨71, _⟩ => ⟨S4x2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_v30 : Ref sig .tc := ⟨.hbm, 41, rfl⟩
abbrev main_c_0 : Ref sig .tc := ⟨.hbm, 42, rfl⟩
abbrev main_v31 : Ref sig .tc := ⟨.hbm, 43, rfl⟩
abbrev main_v32 : Ref sig .tc := ⟨.hbm, 44, rfl⟩
abbrev main_c_1 : Ref sig .tc := ⟨.hbm, 45, rfl⟩
abbrev main_v33 : Ref sig .tc := ⟨.hbm, 46, rfl⟩
abbrev main_v34 : Ref sig .tc := ⟨.hbm, 47, rfl⟩
abbrev main_c_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Proof.KRun.lean ====
/-
  The kernel's run with its result named: every argument array ends as launched and the result array holds what the
  last region leaves there. The launch set-up is the frame's.
-/
module

public import proofs.«01_k».proof.Proof.Gen.KernelIdeal.Frame

@[expose] public section

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the result array at the last region's output and the arguments as launched. -/
theorem run : θ_run defs (onTc (τ := τ) (main (F := F))) ⟨m, fun _ => 0, ρ⟩ (fun r => ∀ c : Dev nD,
      r.2.mem ((c.tc : Thread nD τ).loc main_v7) = (dat2 (V4 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v7 (by decide))).trans (W5_arr m ρ c 3),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.KRun

end
-- ==== Proof.Math.lean ====
/-
  The arithmetic of the chunked convolution, over the real numbers: a causal convolution with the kernel
  `lag ↦ ∑ n, c n * exp (lag * λ n)`, cut into chunks of 128 steps, is a sum inside the chunk plus a term read from the
  state the earlier chunks leave, and that state over a window of chunks is built by doubling the window.
-/
module

public import Idealize.ShloMosaic.PureOps.Ideal
public import Mathlib.Analysis.SpecialFunctions.Exp

@[expose] public section

noncomputable section

namespace Cert.Ssm

open Finset

/-- The sum of reals, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The convolution's kernel at a lag. -/
def lagK (c lam : Fin 64 → ℝ) (l : ℕ) : ℝ := ∑ n, c n * Real.exp (l * lam n)

/-- The causal convolution at step `T`. -/
def conv (w : ℕ → ℝ) (c lam : Fin 64 → ℝ) (T : ℕ) : ℝ := ∑ i ∈ range (T + 1), w i * lagK c lam (T - i)

/-- The state after step `e - 1` that the steps from `a` on leave. -/
def win (w : ℕ → ℝ) (l : ℝ) (a e : ℕ) : ℝ := ∑ i ∈ Ico a e, w i * Real.exp (((e : ℝ) - 1 - i) * l)

/-- A window is its later part plus its earlier part decayed over the later one. -/
theorem win_append (w : ℕ → ℝ) (l : ℝ) {a b e : ℕ} (hab : a ≤ b) (hbe : b ≤ e) :
    win w l a e = win w l b e + Real.exp (((e : ℝ) - b) * l) * win w l a b := by
  unfold win
  rw [← sum_Ico_consecutive _ hab hbe, add_comm, mul_sum]
  congr 1
  refine sum_congr rfl fun i _ => ?_
  rw [mul_left_comm, ← Real.exp_add]
  congr 2
  ring

/-- An empty window leaves the zero state. -/
theorem win_self (w : ℕ → ℝ) (l : ℝ) (a : ℕ) : win w l a a = 0 := by simp [win]

/-- One doubling step: the last `p` chunks up to chunk `q`, and the `p` chunks before them where there are any. -/
theorem win_double (w : ℕ → ℝ) (l : ℝ) (p q : ℕ) :
    win w l (128 * (q + 1 - p)) (128 * (q + 1)) + Real.exp (128 * p * l) *
        (if p ≤ q then win w l (128 * (q - p + 1 - p)) (128 * (q - p + 1)) else 0)
      = win w l (128 * (q + 1 - 2 * p)) (128 * (q + 1)) := by
  by_cases h : p ≤ q
  · rw [if_pos h, win_append w l (a := 128 * (q + 1 - 2 * p)) (b := 128 * (q + 1 - p)) (e := 128 * (q + 1)) (by omega) (by omega)]
    have e1 : q - p + 1 - p = q + 1 - 2 * p := by omega
    have e2 : q - p + 1 = q + 1 - p := by omega
    have e3 : ((128 * (q + 1) : ℕ) : ℝ) - ((128 * (q + 1 - p) : ℕ) : ℝ) = 128 * p := by
      have : ((q + 1 - p : ℕ) : ℝ) = (q : ℝ) + 1 - p := by rw [Nat.cast_sub (by omega)]; push_cast; ring
      push_cast [this]
      ring
    rw [e1, e2, e3]
  · have e1 : q + 1 - p = q + 1 - 2 * p ∨ p = q + 1 := by omega
    have e2 : q + 1 - p = q + 1 - 2 * p := by omega
    rw [if_neg h, mul_zero, add_zero, e2]

/-- A chunk's own contribution to the state at its end, the powers taken as a quotient. -/
theorem win_chunk (w : ℕ → ℝ) (l : ℝ) (q : ℕ) :
    ∑ t : Fin 128, w (128 * q + t.val) * (Real.exp (127 * l) * (1 / Real.exp ((t.val : ℝ) * l)))
      = win w l (128 * q) (128 * (q + 1)) := by
  unfold win
  rw [sum_Ico_eq_sum_range, show 128 * (q + 1) - 128 * q = 128 by omega, ← Fin.sum_univ_eq_sum_range
    (fun t => w (128 * q + t) * Real.exp ((((128 * (q + 1) : ℕ) : ℝ) - 1 - ((128 * q + t : ℕ) : ℝ)) * l)) 128]
  refine sum_congr rfl fun t _ => ?_
  rw [one_div, ← Real.exp_neg, ← Real.exp_add]
  congr 2
  push_cast
  ring

/-- The chunk's own part of its outputs plus the part read from the state before it is the whole convolution. -/
theorem conv_split (w : ℕ → ℝ) (c lam : Fin 64 → ℝ) (q : ℕ) (j : Fin 128) :
    (∑ t : Fin 128, w (128 * q + t.val) * (if t.val ≤ j.val then
        ∑ n, 1 / Real.exp ((t.val : ℝ) * lam n) * (c n * Real.exp ((j.val : ℝ) * lam n)) else 0))
      + (∑ n, win w (lam n) 0 (128 * q) * (c n * Real.exp ((j.val : ℝ) * lam n) * Real.exp (lam n)))
      = conv w c lam (128 * q + j.val) := by
  unfold conv
  rw [show 128 * q + j.val + 1 = 128 * q + (j.val + 1) by omega, range_eq_Ico,
    ← sum_Ico_consecutive _ (Nat.zero_le (128 * q)) (Nat.le_add_right _ _), add_comm]
  congr 1
  · unfold win lagK
    simp only [sum_mul, mul_sum]
    rw [sum_comm]
    refine sum_congr rfl fun i hi => sum_congr rfl fun n _ => ?_
    have hi' : i < 128 * q := (mem_Ico.mp hi).2
    rw [mul_assoc, mul_assoc, ← Real.exp_add, mul_left_comm (Real.exp _), ← Real.exp_add]
    congr 3
    rw [Nat.cast_sub (by omega)]
    push_cast
    ring
  · rw [sum_Ico_eq_sum_range, show 128 * q + (j.val + 1) - 128 * q = j.val + 1 by omega]
    have hs : ∀ f : ℕ → ℝ, ∑ t : Fin 128, w (128 * q + t.val) * (if t.val ≤ j.val then f t.val else 0)
        = ∑ t ∈ range (j.val + 1), w (128 * q + t) * f t := by
      intro f
      rw [Fin.sum_univ_eq_sum_range (fun t => w (128 * q + t) * (if t ≤ j.val then f t else 0)) 128]
      rw [← sum_subset (s₁ := range (j.val + 1)) (fun t ht => mem_range.mpr (by have := mem_range.mp ht; omega))
        (fun t _ ht => by rw [if_neg (by rw [mem_range] at ht; omega), mul_zero])]
      exact sum_congr rfl fun t ht => by rw [if_pos (by have := mem_range.mp ht; omega)]
    rw [hs fun t => ∑ n, 1 / Real.exp ((t : ℝ) * lam n) * (c n * Real.exp ((j.val : ℝ) * lam n))]
    refine sum_congr rfl fun t ht => ?_
    unfold lagK
    congr 1
    refine sum_congr rfl fun n _ => ?_
    rw [one_div, ← Real.exp_neg, mul_left_comm, ← Real.exp_add]
    congr 2
    rw [Nat.cast_sub (by have := mem_range.mp ht; omega)]
    push_cast
    ring

/-- The convolution as a sum over all 2048 steps with the later ones masked out. -/
theorem conv_masked (w : ℕ → ℝ) (c lam : Fin 64 → ℝ) (T : Fin 2048) :
    ∑ i : Fin 2048, w i.val * (if i.val ≤ T.val then lagK c lam (T.val - i.val) else 0) = conv w c lam T.val := by
  unfold conv
  rw [Fin.sum_univ_eq_sum_range (fun i => w i * (if i ≤ T.val then lagK c lam (T.val - i) else 0)) 2048]
  rw [← sum_subset (s₁ := range (T.val + 1)) (fun t ht => mem_range.mpr (by have := mem_range.mp ht; omega))
    (fun t _ ht => by rw [if_neg (by rw [mem_range] at ht; omega), mul_zero])]
  exact sum_congr rfl fun t ht => by rw [if_pos (by have := mem_range.mp ht; omega)]

end Cert.Ssm

end
-- ==== Proof.Common.lean ====
/-
  The function both programs compute, as a function of the argument arrays: in-projection, causal convolution plus `D`
  times the input, out-projection. The convolution is stated over real numbers, which the arguments' finiteness gives.
-/
module

public import proofs.«01_k».proof.Proof.Math
public import Idealize.ShloMosaic.Lib.Pointwise

@[expose] public section

noncomputable section

namespace Cert.Ssm

open Idealize.ShloMosaic

/-- What the arguments give, as real numbers: the rates `lam`, the coefficients `co`, and the sequences `w` the
    in-projection makes (channel, batch, step). -/
structure Inputs (x : (⟨3, ![4, 2048, 512]⟩ : Shape).Idx → EReal) (wi : (⟨2, ![512, 512]⟩ : Shape).Idx → EReal)
    (bi : (⟨1, ![512]⟩ : Shape).Idx → EReal) (a b c : (⟨2, ![512, 64]⟩ : Shape).Idx → EReal)
    (dt : (⟨1, ![512]⟩ : Shape).Idx → EReal) (lam co : Fin 512 → Fin 64 → ℝ) (w : Fin 512 → ℕ → ℕ → ℝ) : Prop where
  lam : ∀ d n, (0 - Ideal.exp (a (ix2 d n))) * dt (ix1 d) = (lam d n : EReal)
  co : ∀ d n, b (ix2 d n) * c (ix2 d n) * dt (ix1 d) = (co d n : EReal)
  w : ∀ (d : Fin 512) (q : Fin 4) (l : Fin 2048),
    ∑ k : Fin 512, wi (ix2 d k) * x (ix3 q l k) + bi (ix1 d) = (w d q.val l.val : EReal)

/-- The convolution plus `D` times the input. -/
def mix (D : (⟨1, ![512]⟩ : Shape).Idx → EReal) (lam co : Fin 512 → Fin 64 → ℝ) (w : Fin 512 → ℕ → ℕ → ℝ)
    (d : Fin 512) (q l : ℕ) : EReal :=
  (conv (w d q) (co d) (lam d) l : EReal) + D (ix1 d) * (w d q l : EReal)

/-- The result. -/
def result (D : (⟨1, ![512]⟩ : Shape).Idx → EReal) (wo : (⟨2, ![512, 512]⟩ : Shape).Idx → EReal)
    (bo : (⟨1, ![512]⟩ : Shape).Idx → EReal) (lam co : Fin 512 → Fin 64 → ℝ) (w : Fin 512 → ℕ → ℕ → ℝ) :
    (⟨3, ![4, 2048, 512]⟩ : Shape).Idx → EReal := fun i =>
  ∑ d : Fin 512, mix D lam co w d (i 0).val (i 1).val * wo (ix2 (i 2) d) + bo (ix1 (i 2))

end Cert.Ssm

end
-- ==== Proof.Region0.lean ====
/-
  The in-projection: the array the first region leaves, at an index. The kernel stores its 256 x 2048 product in 16
  slices of 128 columns; the slices are treated as one family.
-/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Region0

open Idealize.ShloMosaic Idealize.ShloMosaic.TcCoe Idealize.ShloMosaic.Tactic Cert.KernelIdeal Cert.KernelIdeal.Gen
open Idealize.ShloMosaic.Pipeline (Dat)

/-- The block of `x` a grid point handles. -/
theorem index0 : ∀ t : Fin cfg0.N, win0_0.index t = ![(grid0.coords t 1).val, 0, 0] :=
  (by decide +kernel : ∀ t : Fin grid0.N, win0_0.index t = ![(grid0.coords t 1).val, 0, 0])
/-- The block of `W_in` a grid point handles. -/
theorem index1 : ∀ t : Fin cfg0.N, win0_1.index t = ![(grid0.coords t 0).val, 0] :=
  (by decide +kernel : ∀ t : Fin grid0.N, win0_1.index t = ![(grid0.coords t 0).val, 0])
/-- The block of `b_in` a grid point handles. -/
theorem index2 : ∀ t : Fin cfg0.N, win0_2.index t = ![(grid0.coords t 0).val, 0] :=
  (by decide +kernel : ∀ t : Fin grid0.N, win0_2.index t = ![(grid0.coords t 0).val, 0])
/-- The block of the result a grid point handles. -/
theorem index3 : ∀ t : Fin cfg0.N, win0_3.index t = ![(grid0.coords t 0).val, (grid0.coords t 1).val, 0] :=
  (by decide +kernel : ∀ t : Fin grid0.N, win0_3.index t = ![(grid0.coords t 0).val, (grid0.coords t 1).val, 0])

section
variable {F : FTy → Type} [FloatOps F]

/-- A slice of 128 columns lies inside the product. -/
theorem slices_cols (k : Fin 16) : S256x2048.Slices ![0, 128 * k.val] S256x128 :=
  ⟨rfl, fun a => by match a with
    | 0 => exact Nat.le_refl 256
    | 1 => show 128 * k.val + 128 ≤ 2048; omega⟩

/-- Slice `k`'s rectangle lies inside the block. -/
theorem inb_chunk (k : Fin 16) : ∀ a, ![0, k.val, 0] a + S256x1x128.size a ≤ S256x16x128.size a := fun a => by
  match a with
  | 0 => exact Nat.le_refl 256
  | 1 => exact k.isLt
  | 2 => exact Nat.le_refl 128

/-- Slice `k` of the product, as it is stored. -/
def slicePay (x0 : Vec F S1x2048x512 .f32) (x1 : Vec F S256x512 .f32) (x2 : Vec F S256x1 .f32) (k : Fin 16) :
    Vec F S256x1x128 .f32 :=
  shapeCast S256x1x128 (extractStridedSlice S256x128 ![0, 128 * k.val]
    (k0_pay5 (View.ld x0 r0_0) (View.ld x1 r0_1) (View.ld x2 r0_2)) (slices_cols k)) shapeCasts_S256x128_S256x1x128

/-- The block the kernel leaves is the 16 slices, the last first. -/
theorem out_eq_slices (x0 : Vec F S1x2048x512 .f32) (x1 : Vec F S256x512 .f32) (x2 : Vec F S256x1 .f32) :
    out0_3 x0 x1 x2 = View.canon (List.ofFn fun j : Fin 16 =>
      (⟨Rect.unit (s := S256x16x128) ![0, (Fin.rev j).val, 0] S256x1x128.size (inb_chunk (Fin.rev j)),
        slicePay x0 x1 x2 (Fin.rev j)⟩ : View.Piece (Elt F) S256x16x128 .f32)) := by
  sl_kernel_rfl

end

/-- The product plus the bias, at an index. -/
theorem prod_apply (x0 : Vec Ideal S1x2048x512 .f32) (x1 : Vec Ideal S256x512 .f32) (x2 : Vec Ideal S256x1 .f32)
    (d : Fin 256) (l : Fin 2048) :
    k0_pay5 x0 x1 x2 (ix2 d l) = ∑ k : Fin 512, x1 (ix2 d k) * x0 (ix3 0 l k) + x2 (ix2 d 0) := by
  pointwise [k0_pay5]

/-- A slice, at an index. -/
theorem slicePay_apply (x0 : Vec Ideal S1x2048x512 .f32) (x1 : Vec Ideal S256x512 .f32) (x2 : Vec Ideal S256x1 .f32)
    (k : Fin 16) (x : S256x1x128.Idx) :
    slicePay x0 x1 x2 k x
      = k0_pay5 x0 x1 x2 (ix2 (x 0) ⟨128 * k.val + (x 2).val, by idx_bounds x; omega⟩) := by
  unfold slicePay
  rw [View.ld_unit_lit, View.ld_unit_lit, View.ld_unit_lit]
  · idx_vars x
    pointwise []
  all_goals decide

/-- The block, at an index. -/
theorem out_apply (x0 : Vec Ideal S1x2048x512 .f32) (x1 : Vec Ideal S256x512 .f32) (x2 : Vec Ideal S256x1 .f32)
    (y : S256x16x128.Idx) :
    out0_3 x0 x1 x2 y = ∑ k : Fin 512, x1 (ix2 (y 0) k)
      * x0 (ix3 0 ⟨128 * (y 1).val + (y 2).val, by idx_bounds y; omega⟩ k) + x2 (ix2 (y 0) 0) := by
  rw [out_eq_slices]
  let k0 : Fin 16 := y 1
  have hk : (Fin.rev (Fin.rev k0)).val = (y 1).val := congrArg Fin.val (Fin.rev_rev k0)
  refine View.canon_ofFn_unit_eq_of_forall _ _ _ _ y _ ⟨Fin.rev k0, ?_⟩ fun j => ?_
  · exact fun a => by match a with
      | 0 => exact ⟨Nat.zero_le _, (Nat.zero_add 256).symm ▸ (y 0).isLt⟩
      | 1 => exact ⟨Nat.le_of_eq hk, Nat.lt_succ_of_le (Nat.le_of_eq hk.symm)⟩
      | 2 => exact ⟨Nat.zero_le _, (Nat.zero_add 128).symm ▸ (y 2).isLt⟩
  · tile_intro x h
    have e0 : x 0 = y 0 := Fin.ext h0.symm
    have e1 : j.rev.val = (y 1).val := by omega
    refine (slicePay_apply x0 x1 x2 j.rev x).trans ((prod_apply x0 x1 x2 _ _).trans ?_)
    simp only [e0, e1, h2]

/-- The in-projection of the whole arrays, chunk by chunk. -/
def G (x : S4x2048x512.Idx → EReal) (w : S512x512.Idx → EReal) (b : S512x1.Idx → EReal) : S512x64x128.Idx → EReal := fun i =>
  ∑ k : Fin 512, w (ix2 (i 0) k) * x (ix3 ⟨(i 1).val / 16, by idx_bounds i; omega⟩
    ⟨128 * ((i 1).val % 16) + (i 2).val, by idx_bounds i; omega⟩ k) + b (ix2 (i 0) 0)

/-- The first region's result array. -/
theorem arr_eq (V : (c : Dev nD) → (b : Ref sig .tc) → Buf (Elt Ideal) ((c : Thread nD τ).loc b)) (c : Dev nD) :
    (dat0 V c).arrAt 3 cfg0.N = G (V c main_arg0) (V c main_arg1) (V c main_v0) := by
  refine (dat0 V c).arrAt_eq_of_covers 3 _ (by decide +kernel) fun t hf y => ?_
  blk_simp
  rw [after0_3, out_apply]
  unfold G
  blk_simp [iblk0]
  refine congrArg₂ (· + ·) (Finset.sum_congr rfl fun x _ => congrArg₂ (· * ·) (congrArg _ ?_) (congrArg _ ?_)) (congrArg _ ?_)
  · blk_ext [index1, index3]
  · blk_ext [index0, index3]
  · blk_ext [index2, index3]

end Cert.KernelIdeal.Region0

end
-- ==== Proof.Row.lean ====
/-
  One row of the convolution kernel, written once for a symbolic row `i` of the block of 64 rows the kernel unrolls:
  the payload `rowPay i` each of the 64 stores writes, and `out1_6_eq`, that the block the kernel leaves is the 64
  pieces `rowPiece i`.
-/
module

public import proofs.«01_k».proof.Proof.Gen.KernelIdeal.Frame

@[expose] public section

set_option maxRecDepth 16384

noncomputable section

namespace Cert.KernelIdeal.Row

open Idealize.ShloMosaic Idealize.ShloMosaic.Tactic Cert.KernelIdeal Cert.KernelIdeal.Gen

variable {F : FTy → Type} [FloatOps F]

/-- A 1 x 64 row lies inside the 64 x 64 block. -/
theorem slices_row (i : Fin 64) : S64x64.Slices ![i.val, 0] S1x64 :=
  ⟨rfl, fun a => by match a with
    | 0 => exact i.isLt
    | 1 => exact Nat.le_refl 64⟩

/-- Row `i` of a 64 x 64 table. -/
def rowOf (i : Fin 64) (x : FVec F S64x64 .f32) : FVec F S1x64 .f32 :=
  extractStridedSlice S1x64 ![i.val, 0] x (slices_row i)

/-- The powers `exp (τ * logr)`, `τ` down the rows. -/
def pows (i : Fin 64) (lr : FVec F S64x64 .f32) : FVec F S128x64 .f32 :=
  exp (mulf (k1_pay2 (F := F)) (broadcastTo S128x64 (rowOf i lr) broadcasts_S1x64_S128x64))

/-- The powers' reciprocals. -/
def rneg (i : Fin 64) (lr : FVec F S64x64 .f32) : FVec F S128x64 .f32 :=
  divf (broadcast S128x64 (Scalar.ofBits .f32 0x3F800000#32 : F .f32)) (pows i lr)

/-- The coefficient times the powers. -/
def cp (i : Fin 64) (lr co : FVec F S64x64 .f32) : FVec F S128x64 .f32 :=
  mulf (broadcastTo S128x64 (rowOf i co) broadcasts_S1x64_S128x64) (pows i lr)

/-- The coefficient times the powers one step on. -/
def wop (i : Fin 64) (lr co r1 : FVec F S64x64 .f32) : FVec F S128x64 .f32 :=
  mulf (cp i lr co) (broadcastTo S128x64 (rowOf i r1) broadcasts_S1x64_S128x64)

/-- The powers in reverse: `exp (127 * logr)` times the reciprocals. -/
def revp (i : Fin 64) (lr rTm1 : FVec F S64x64 .f32) : FVec F S128x64 .f32 :=
  mulf (broadcastTo S128x64 (rowOf i rTm1) broadcasts_S1x64_S128x64) (rneg i lr)

/-- The row's input: 64 chunks of 128 steps. -/
def chunks (u : Vec F S1x64x128 .f32) : FVec F S64x128 .f32 :=
  shapeCast S64x128 u shapeCasts_S1x64x128_S64x128

/-- The causal Toeplitz tile of the convolution's kernel, lags `j - i` for `j ≥ i`. -/
def toep (i : Fin 64) (lr co : FVec F S64x64 .f32) : FVec F S128x128 .f32 :=
  select k1_pay3 (matmul dot_S128x64_S128x64_S128x128_1_1_0_0_n_n none (rneg i lr) (cp i lr co) (constant S128x128 .f32 0x00000000#32))
    (broadcast S128x128 (Scalar.ofBits .f32 0x00000000#32 : F .f32))

/-- What a chunk contributes to its own outputs. -/
def intra (i : Fin 64) (lr co : FVec F S64x64 .f32) (u : Vec F S1x64x128 .f32) : FVec F S64x128 .f32 :=
  matmul dot_S64x128_S128x128_S64x128_1_0_0_1_n_n none (chunks u) (toep i lr co) (constant S64x128 .f32 0x00000000#32)

/-- What a chunk contributes to the state at its end. -/
def contrib (i : Fin 64) (lr rTm1 : FVec F S64x64 .f32) (u : Vec F S1x64x128 .f32) : FVec F S64x64 .f32 :=
  matmul dot_S64x128_S128x64_S64x64_1_0_0_1_n_n none (chunks u) (revp i lr rTm1) (constant S64x64 .f32 0x00000000#32)

/-- Rows rotated down by `k`, and a row whose chunk number in its sequence is below `k` set to zero. -/
def shiftBy (k r : Nat) (h1 : S64x64.Slices ![r, 0] ⟨2, ![k, 64]⟩) (h2 : S64x64.Slices ![0, 0] ⟨2, ![r, 64]⟩)
    (h3 : Shape.Concatenates [⟨2, ![k, 64]⟩, ⟨2, ![r, 64]⟩] S64x64 0) (s : FVec F S64x64 .f32) : FVec F S64x64 .f32 :=
  select (cmpi .sge k1_pay4 (broadcast S64x64 (BitVec.ofNat 32 k)))
    (concatenate S64x64 0 [⟨⟨2, ![k, 64]⟩, extractStridedSlice ⟨2, ![k, 64]⟩ ![r, 0] s h1⟩,
      ⟨⟨2, ![r, 64]⟩, extractStridedSlice ⟨2, ![r, 64]⟩ ![0, 0] s h2⟩] h3)
    (broadcast S64x64 (Scalar.ofBits .f32 0x00000000#32 : F .f32))

/-- One doubling step of the scan over chunks: the state plus `w` times the state shifted. -/
def scanStep (w : FVec F S1x64 .f32) (s sh : FVec F S64x64 .f32) : FVec F S64x64 .f32 :=
  addf s (mulf (broadcastTo S64x64 w broadcasts_S1x64_S64x64) sh)

abbrev shift1 (s : FVec F S64x64 .f32) : FVec F S64x64 .f32 :=
  shiftBy 1 63 slices_S64x64_o63_0_S1x64 slices_S64x64_o0_0_S63x64 concatenates_S1x64_S63x64_S64x64_d0 s
abbrev shift2 (s : FVec F S64x64 .f32) : FVec F S64x64 .f32 :=
  shiftBy 2 62 slices_S64x64_o62_0_S2x64 slices_S64x64_o0_0_S62x64 concatenates_S2x64_S62x64_S64x64_d0 s
abbrev shift4 (s : FVec F S64x64 .f32) : FVec F S64x64 .f32 :=
  shiftBy 4 60 slices_S64x64_o60_0_S4x64 slices_S64x64_o0_0_S60x64 concatenates_S4x64_S60x64_S64x64_d0 s
abbrev shift8 (s : FVec F S64x64 .f32) : FVec F S64x64 .f32 :=
  shiftBy 8 56 slices_S64x64_o56_0_S8x64 slices_S64x64_o0_0_S56x64 concatenates_S8x64_S56x64_S64x64_d0 s

/-- The scan: four doubling steps with the weight squared each time. -/
def scan (w : FVec F S1x64 .f32) (s : FVec F S64x64 .f32) : FVec F S64x64 .f32 :=
  have w2 : FVec F S1x64 .f32 := mulf w w
  have w4 : FVec F S1x64 .f32 := mulf w2 w2
  have w8 : FVec F S1x64 .f32 := mulf w4 w4
  have s1 : FVec F S64x64 .f32 := scanStep w s (shift1 s)
  have s2 : FVec F S64x64 .f32 := scanStep w2 s1 (shift2 s1)
  have s4 : FVec F S64x64 .f32 := scanStep w4 s2 (shift4 s2)
  scanStep w8 s4 (shift8 s4)

/-- What the earlier chunks contribute to a chunk's outputs. -/
def outer (i : Fin 64) (lr co r1 rT rTm1 : FVec F S64x64 .f32) (u : Vec F S1x64x128 .f32) : FVec F S64x128 .f32 :=
  matmul dot_S64x64_S128x64_S64x128_1_1_0_0_n_n none (shift1 (scan (rowOf i rT) (contrib i lr rTm1 u))) (wop i lr co r1)
    (constant S64x128 .f32 0x00000000#32)

/-- The row's output as the kernel stores it. -/
def rowPay (i : Fin 64) (lr co r1 rT rTm1 : FVec F S64x64 .f32) (u : Vec F S1x64x128 .f32) (d : Vec F S1x1 .f32) :
    FVec F S1x64x128 .bf16 :=
  shapeCast S1x64x128 (truncf .bf16 (addf (addf (intra i lr co u) (outer i lr co r1 rT rTm1 u))
    (mulf (broadcastTo S64x128 (shapeCast S1x1 d shapeCasts_S1x1_S1x1) broadcasts_S1x1_S64x128) (chunks u))) bitsLt_bf16_f32)
    shapeCasts_S64x128_S1x64x128

/-- Row `i` of the 64 x 64 x 128 block lies inside it. -/
theorem inb_row3 (i : Fin 64) : ∀ a, ![i.val, 0, 0] a + S1x64x128.size a ≤ S64x64x128.size a := fun a => by
  match a with
  | 0 => exact i.isLt
  | 1 => exact Nat.le_refl 64
  | 2 => exact Nat.le_refl 128

/-- Entry `i` of the column lies inside it. -/
theorem inb_row2 (i : Fin 64) : ∀ a, ![i.val, 0] a + S1x1.size a ≤ S64x1.size a := fun a => by
  match a with
  | 0 => exact i.isLt
  | 1 => exact Nat.le_refl 1

/-- Row `i`'s rectangle in the block of 64 rows. -/
abbrev rowRect (i : Fin 64) : Rect S64x64x128 := Rect.unit (s := S64x64x128) ![i.val, 0, 0] S1x64x128.size (inb_row3 i)
/-- Row `i`'s one number of the column `D`. -/
abbrev dRect (i : Fin 64) : Rect S64x1 := Rect.unit (s := S64x1) ![i.val, 0] S1x1.size (inb_row2 i)

/-- Row `i`'s payload from the six input blocks. -/
def rowOut (i : Fin 64) (x0 : Vec F S64x64x128 .f32) (x1 x2 x3 : Vec F S64x64 .f32) (x4 x5 : Vec F S64x1 .f32) : FVec F S1x64x128 .bf16 :=
  have lr : FVec F S64x64 .f32 := k1_pay5 (View.ld x1 r1_0) (View.ld x4 r1_1)
  have co : FVec F S64x64 .f32 := k1_pay6 (View.ld x2 r1_0) (View.ld x3 r1_0) (View.ld x4 r1_1)
  have r1 : FVec F S64x64 .f32 := k1_pay7 (View.ld x1 r1_0) (View.ld x4 r1_1)
  have rT : FVec F S64x64 .f32 := k1_pay8 (View.ld x1 r1_0) (View.ld x4 r1_1)
  rowPay i lr co r1 rT (k1_pay9 r1 rT) (View.ld x0 (rowRect i)) (View.ld x5 (dRect i))

/-- Row `i`'s store. -/
def rowPiece (x0 : Vec F S64x64x128 .f32) (x1 x2 x3 : Vec F S64x64 .f32) (x4 x5 : Vec F S64x1 .f32) (i : Fin 64) :
    View.Piece (Elt F) S64x64x128 .bf16 :=
  ⟨rowRect i, rowOut i x0 x1 x2 x3 x4 x5⟩

/-- The block the kernel leaves is the 64 rows' stores, the last row first. -/
theorem out1_6_eq (x0 : Vec F S64x64x128 .f32) (x1 x2 x3 : Vec F S64x64 .f32) (x4 x5 : Vec F S64x1 .f32) :
    out1_6 x0 x1 x2 x3 x4 x5 = View.canon (List.ofFn fun j : Fin 64 => rowPiece x0 x1 x2 x3 x4 x5 (Fin.rev j)) := by
  sl_kernel_rfl

end Cert.KernelIdeal.Row

end
-- ==== Proof.RowVal.lean ====
/-
  The convolution row's values at an index, over the extended reals: with the row's rates, coefficients and inputs
  real numbers, what the kernel stores for row `i` is the causal convolution plus `D` times the input.
-/
module

public import proofs.«01_k».proof.Proof.Row
public import proofs.«01_k».proof.Proof.Math
public import Idealize.ShloMosaic.Lib.Pointwise

@[expose] public section

set_option maxRecDepth 16384

noncomputable section

namespace Cert.KernelIdeal.Row

open Idealize.ShloMosaic Idealize.ShloMosaic.Tactic Idealize.ShloMosaic.WordCmp Cert.KernelIdeal Cert.KernelIdeal.Gen Cert.Ssm

/-- A row cut out of a table. -/
theorem rowOf_apply (i : Fin 64) (x : FVec Ideal S64x64 .f32) (n : Fin 64) : rowOf i x (ix2 0 n) = x (ix2 i n) := by
  pointwise [rowOf]

/-- The step number. -/
theorem tau_apply (t : Fin 128) (n : Fin 64) : k1_pay2 (F := Ideal) (ix2 t n) = ((t.val : ℝ) : EReal) := by
  pointwise [k1_pay2]
  show ((((BitVec.ofNat 32 t.val).toInt : ℤ) : ℝ) : EReal) = _
  rw [toInt_ofNat_of_lt (show t.val < 2 ^ 31 by omega)]
  simp

/-- The chunk's number in its sequence. -/
theorem chunk_apply (g n : Fin 64) : k1_pay4 (ix2 g n) = BitVec.ofNat 32 (g.val % 16) := by
  pointwise [k1_pay4]
  revert g
  decide +kernel

/-- What the row's tables and inputs hold, as real numbers: the rates `lam`, the coefficients `c`, and the four
    sequences `w`, chunk after chunk. -/
structure RowReal (i : Fin 64) (lr co r1 rT rTm1 : FVec Ideal S64x64 .f32) (u : Vec Ideal S1x64x128 .f32)
    (lam c : Fin 64 → ℝ) (w : ℕ → ℕ → ℝ) : Prop where
  lr : ∀ n, lr (ix2 i n) = (lam n : EReal)
  co : ∀ n, co (ix2 i n) = (c n : EReal)
  r1 : ∀ n, r1 (ix2 i n) = (Real.exp (lam n) : EReal)
  rT : ∀ n, rT (ix2 i n) = (Real.exp (128 * lam n) : EReal)
  rTm1 : ∀ n, rTm1 (ix2 i n) = (Real.exp (127 * lam n) : EReal)
  u : ∀ (g : Fin 64) (t : Fin 128), u (ix3 0 g t) = (w (g.val / 16) (128 * (g.val % 16) + t.val) : EReal)

section
variable {i : Fin 64} {lr co r1 rT rTm1 : FVec Ideal S64x64 .f32} {u : Vec Ideal S1x64x128 .f32}
  {lam c : Fin 64 → ℝ} {w : ℕ → ℕ → ℝ} (H : RowReal i lr co r1 rT rTm1 u lam c w)
include H

/-- The powers. -/
theorem pows_apply (t : Fin 128) (n : Fin 64) : pows i lr (ix2 t n) = (Real.exp (t.val * lam n) : EReal) := by
  pointwise [pows]
  rw [tau_apply, rowOf_apply, H.lr, ← EReal.coe_mul, Ideal.exp_coe]

/-- The powers' reciprocals. -/
theorem rneg_apply (t : Fin 128) (n : Fin 64) : rneg i lr (ix2 t n) = ((1 / Real.exp (t.val * lam n) : ℝ) : EReal) := by
  pointwise [rneg]
  rw [pows_apply H, Ideal.div_coe (Real.exp_ne_zero _), one_mul]

/-- The coefficient times the powers. -/
theorem cp_apply (t : Fin 128) (n : Fin 64) : cp i lr co (ix2 t n) = ((c n * Real.exp (t.val * lam n) : ℝ) : EReal) := by
  pointwise [cp]
  rw [pows_apply H, rowOf_apply, H.co, ← EReal.coe_mul]

/-- The coefficient times the powers one step on. -/
theorem wop_apply (t : Fin 128) (n : Fin 64) :
    wop i lr co r1 (ix2 t n) = ((c n * Real.exp (t.val * lam n) * Real.exp (lam n) : ℝ) : EReal) := by
  pointwise [wop]
  rw [cp_apply H, rowOf_apply, H.r1, ← EReal.coe_mul]

/-- The powers in reverse. -/
theorem revp_apply (t : Fin 128) (n : Fin 64) :
    revp i lr rTm1 (ix2 t n) = ((Real.exp (127 * lam n) * (1 / Real.exp (t.val * lam n)) : ℝ) : EReal) := by
  pointwise [revp]
  rw [rneg_apply H, rowOf_apply, H.rTm1, ← EReal.coe_mul]

/-- The row's input in chunks. -/
theorem chunks_apply (g : Fin 64) (t : Fin 128) :
    chunks u (ix2 g t) = (w (g.val / 16) (128 * (g.val % 16) + t.val) : EReal) := by
  rw [← H.u]
  pointwise [chunks]

/-- The Toeplitz tile. -/
theorem toep_apply (t j : Fin 128) : toep i lr co (ix2 t j) = ((if t.val ≤ j.val then
    ∑ n, 1 / Real.exp (t.val * lam n) * (c n * Real.exp (j.val * lam n)) else 0 : ℝ) : EReal) := by
  pointwise [toep, k1_pay3]
  rw [cmpi_sge_ofNat (show j.val < 2 ^ 31 by omega) (show t.val < 2 ^ 31 by omega), select_ofBool]
  by_cases h : t.val ≤ j.val
  · simp only [h, decide_true, if_true, coe_sum, rneg_apply H, cp_apply H, EReal.coe_mul]
  · simp [h]

/-- The chunk's contribution to its own outputs. -/
theorem intra_apply (g : Fin 64) (j : Fin 128) : intra i lr co u (ix2 g j)
    = ((∑ t : Fin 128, w (g.val / 16) (128 * (g.val % 16) + t.val) * (if t.val ≤ j.val then
        ∑ n, 1 / Real.exp (t.val * lam n) * (c n * Real.exp (j.val * lam n)) else 0) : ℝ) : EReal) := by
  pointwise [intra]
  simp only [chunks_apply H, toep_apply H, coe_sum, EReal.coe_mul]

/-- The chunk's contribution to the state at its end. -/
theorem contrib_apply (g n : Fin 64) : contrib i lr rTm1 u (ix2 g n)
    = (win (w (g.val / 16)) (lam n) (128 * (g.val % 16)) (128 * (g.val % 16 + 1)) : EReal) := by
  pointwise [contrib]
  rw [← win_chunk, coe_sum]
  simp only [chunks_apply H, revp_apply H, EReal.coe_mul]

end

/-- What a shift by `k` rows does: the row `k` above inside the same sequence, and zero where there is none. -/
def Shifts (k : ℕ) (sh : FVec Ideal S64x64 .f32 → FVec Ideal S64x64 .f32) : Prop :=
  ∀ (s : FVec Ideal S64x64 .f32) (g n : Fin 64),
    sh s (ix2 g n) = if k ≤ g.val % 16 then s (ix2 ⟨g.val - k, by omega⟩ n) else 0

/-- The choice a shift makes at a row, from the chunk's number. -/
theorem shift_pick (k : ℕ) (hk : k < 16) (s : FVec Ideal S64x64 .f32) (g n : Fin 64) (x : g.val < k → EReal) :
    Scalar.select (IntOp.cmpi .sge (k1_pay4 (ix2 g n)) (BitVec.ofNat 32 k))
        (if h : g.val < k then x h else s (ix2 ⟨g.val - k, by omega⟩ n)) 0
      = if k ≤ g.val % 16 then s (ix2 ⟨g.val - k, by omega⟩ n) else 0 := by
  rw [chunk_apply, cmpi_sge_ofNat (show g.val % 16 < 2 ^ 31 by omega) (show k < 2 ^ 31 by omega), select_ofBool]
  by_cases h : k ≤ g.val % 16
  · simp only [h, decide_true, if_true]
    rw [dif_neg (by omega)]
  · simp [h]

/-- The shift by one row. -/
theorem shifts1 : Shifts 1 shift1 := fun s g n => by
  pointwise [shift1, shiftBy]
  exact shift_pick 1 (by decide) s g n _

/-- The shift by two rows. -/
theorem shifts2 : Shifts 2 shift2 := fun s g n => by
  pointwise [shift2, shiftBy]
  exact shift_pick 2 (by decide) s g n _

/-- The shift by four rows. -/
theorem shifts4 : Shifts 4 shift4 := fun s g n => by
  pointwise [shift4, shiftBy]
  exact shift_pick 4 (by decide) s g n _

/-- The shift by eight rows. -/
theorem shifts8 : Shifts 8 shift8 := fun s g n => by
  pointwise [shift8, shiftBy]
  exact shift_pick 8 (by decide) s g n _

/-- The table `s` holds the states over the last `p` chunks of each sequence. -/
def IsWin (w : ℕ → ℕ → ℝ) (lam : Fin 64 → ℝ) (p : ℕ) (s : FVec Ideal S64x64 .f32) : Prop :=
  ∀ g n : Fin 64, s (ix2 g n)
    = (win (w (g.val / 16)) (lam n) (128 * (g.val % 16 + 1 - p)) (128 * (g.val % 16 + 1)) : EReal)

/-- One doubling step of the scan doubles the window. -/
theorem scanStep_isWin {w : ℕ → ℕ → ℝ} {lam : Fin 64 → ℝ} {p : ℕ} {s : FVec Ideal S64x64 .f32}
    {wt : FVec Ideal S1x64 .f32} {sh : FVec Ideal S64x64 .f32 → FVec Ideal S64x64 .f32} (hsh : Shifts p sh)
    (hwt : ∀ n, wt (ix2 0 n) = (Real.exp (128 * p * lam n) : EReal)) (hs : IsWin w lam p s) :
    IsWin w lam (2 * p) (scanStep wt s (sh s)) := by
  intro g n
  pointwise [scanStep]
  rw [hsh, hwt, hs, ← win_double, EReal.coe_add, EReal.coe_mul]
  congr 2
  by_cases h : p ≤ g.val % 16
  · rw [if_pos h, if_pos h, hs]
    dsimp only
    rw [show (g.val - p) / 16 = g.val / 16 by omega, show (g.val - p) % 16 = g.val % 16 - p by omega]
  · rw [if_neg h, if_neg h, EReal.coe_zero]

/-- Squaring the weight. -/
theorem weight_sq {lam : Fin 64 → ℝ} {p : ℕ} {wt : FVec Ideal S1x64 .f32}
    (hwt : ∀ n, wt (ix2 0 n) = (Real.exp (128 * p * lam n) : EReal)) (n : Fin 64) :
    mulf wt wt (ix2 0 n) = (Real.exp (128 * (2 * p : ℕ) * lam n) : EReal) := by
  pointwise []
  rw [hwt, ← EReal.coe_mul, ← Real.exp_add]
  congr 2
  push_cast
  ring

/-- The scan leaves the state over the whole sequence so far. -/
theorem scan_isWin {w : ℕ → ℕ → ℝ} {lam : Fin 64 → ℝ} {s : FVec Ideal S64x64 .f32} {wt : FVec Ideal S1x64 .f32}
    (hwt : ∀ n, wt (ix2 0 n) = (Real.exp (128 * (1 : ℕ) * lam n) : EReal)) (hs : IsWin w lam 1 s) :
    IsWin w lam 16 (scan wt s) := by
  have h1 := weight_sq hwt
  have h2 := weight_sq h1
  have h4 := weight_sq h2
  have a1 := scanStep_isWin (sh := shift1) shifts1 hwt hs
  have a2 := scanStep_isWin (sh := shift2) shifts2 h1 a1
  have a4 := scanStep_isWin (sh := shift4) shifts4 h2 a2
  have a8 := scanStep_isWin (sh := shift8) shifts8 h4 a4
  unfold scan
  exact a8

section
variable {i : Fin 64} {lr co r1 rT rTm1 : FVec Ideal S64x64 .f32} {u : Vec Ideal S1x64x128 .f32}
  {lam c : Fin 64 → ℝ} {w : ℕ → ℕ → ℝ} (H : RowReal i lr co r1 rT rTm1 u lam c w)
include H

/-- The state before a chunk. -/
theorem state_apply (g n : Fin 64) : shift1 (scan (rowOf i rT) (contrib i lr rTm1 u)) (ix2 g n)
    = (win (w (g.val / 16)) (lam n) 0 (128 * (g.val % 16)) : EReal) := by
  have hw : IsWin w lam 16 (scan (rowOf i rT) (contrib i lr rTm1 u)) :=
    scan_isWin (fun n => by rw [rowOf_apply, H.rT, Nat.cast_one, mul_one]) fun g n => contrib_apply H g n
  rw [shifts1]
  by_cases h : 1 ≤ g.val % 16
  · rw [if_pos h, hw]
    dsimp only
    rw [show (g.val - 1) / 16 = g.val / 16 by omega, show (g.val - 1) % 16 + 1 = g.val % 16 by omega,
      show 128 * (g.val % 16 - 16) = 0 by omega]
  · rw [if_neg h, show g.val % 16 = 0 by omega, win_self, EReal.coe_zero]

/-- The row's value: the convolution plus `D` times the input. -/
theorem rowPay_apply (d : Vec Ideal S1x1 .f32) (g : Fin 64) (j : Fin 128) :
    rowPay i lr co r1 rT rTm1 u d (ix3 0 g j)
      = (conv (w (g.val / 16)) c lam (128 * (g.val % 16) + j.val) : EReal)
        + d (ix2 0 0) * (w (g.val / 16) (128 * (g.val % 16) + j.val) : EReal) := by
  pointwise [rowPay, outer]
  rw [chunks_apply H, intra_apply H, ← conv_split, EReal.coe_add]
  congr 2
  rw [coe_sum]
  refine Finset.sum_congr rfl fun n _ => ?_
  rw [state_apply H, wop_apply H, ← EReal.coe_mul]

end

end Cert.KernelIdeal.Row

end
-- ==== Proof.Region1.lean ====
/-
  The convolution: the array the second region leaves, at an index, where the rates, the coefficients and the
  convolved sequences are real numbers.
-/
module

public import proofs.«01_k».proof.Proof.RowVal
public import Idealize.ShloMosaic.Lib.Pipeline.ValueKit

@[expose] public section

set_option maxRecDepth 16384

noncomputable section

namespace Cert.KernelIdeal.Region1

open Idealize.ShloMosaic Idealize.ShloMosaic.TcCoe Idealize.ShloMosaic.Tactic Cert.KernelIdeal Cert.KernelIdeal.Gen
open Cert.KernelIdeal.Row Cert.Ssm
open Idealize.ShloMosaic.Pipeline (Dat)

/-- The block of the sequences a grid point handles. -/
theorem index0 : ∀ t : Fin cfg1.N, win1_0.index t = ![(grid1.coords t 0).val, 0, 0] :=
  (by decide +kernel : ∀ t : Fin grid1.N, win1_0.index t = ![(grid1.coords t 0).val, 0, 0])
/-- The block of `A_log` a grid point handles. -/
theorem index1 : ∀ t : Fin cfg1.N, win1_1.index t = ![(grid1.coords t 0).val, 0] :=
  (by decide +kernel : ∀ t : Fin grid1.N, win1_1.index t = ![(grid1.coords t 0).val, 0])
/-- The block of `B` a grid point handles. -/
theorem index2 : ∀ t : Fin cfg1.N, win1_2.index t = ![(grid1.coords t 0).val, 0] :=
  (by decide +kernel : ∀ t : Fin grid1.N, win1_2.index t = ![(grid1.coords t 0).val, 0])
/-- The block of `C` a grid point handles. -/
theorem index3 : ∀ t : Fin cfg1.N, win1_3.index t = ![(grid1.coords t 0).val, 0] :=
  (by decide +kernel : ∀ t : Fin grid1.N, win1_3.index t = ![(grid1.coords t 0).val, 0])
/-- The block of `dt` a grid point handles. -/
theorem index4 : ∀ t : Fin cfg1.N, win1_4.index t = ![(grid1.coords t 0).val, 0] :=
  (by decide +kernel : ∀ t : Fin grid1.N, win1_4.index t = ![(grid1.coords t 0).val, 0])
/-- The block of `D` a grid point handles. -/
theorem index5 : ∀ t : Fin cfg1.N, win1_5.index t = ![(grid1.coords t 0).val, 0] :=
  (by decide +kernel : ∀ t : Fin grid1.N, win1_5.index t = ![(grid1.coords t 0).val, 0])
/-- The block of the result a grid point handles. -/
theorem index6 : ∀ t : Fin cfg1.N, win1_6.index t = ![(grid1.coords t 0).val, 0, 0] :=
  (by decide +kernel : ∀ t : Fin grid1.N, win1_6.index t = ![(grid1.coords t 0).val, 0, 0])

/-- The chunk length as the kernel's constant. -/
theorem ofBits_128 : Ideal.ofBits .f32 0x43000000#32 = ((128 : ℝ) : EReal) := by
  simp [Ideal.ofBits, Ideal.ieee, -EReal.coe_mul]; norm_num

/-- What the arrays the region reads hold, as real numbers: the rates `lam`, the coefficients `co`, the sequences `w`. -/
structure Reals {R : ℕ} (u : (⟨3, ![R, 64, 128]⟩ : Shape).Idx → EReal) (a b c : (⟨2, ![R, 64]⟩ : Shape).Idx → EReal)
    (dt : (⟨2, ![R, 1]⟩ : Shape).Idx → EReal) (lam co : Fin R → Fin 64 → ℝ) (w : Fin R → ℕ → ℕ → ℝ) : Prop where
  lam : ∀ d n, (0 - Ideal.exp (a (ix2 d n))) * dt (ix2 d 0) = (lam d n : EReal)
  co : ∀ d n, b (ix2 d n) * c (ix2 d n) * dt (ix2 d 0) = (co d n : EReal)
  u : ∀ (d : Fin R) (g : Fin 64) (t : Fin 128),
    u (ix3 d g t) = (w d (g.val / 16) (128 * (g.val % 16) + t.val) : EReal)

section
variable {x0 : Vec Ideal S64x64x128 .f32} {x1 x2 x3 : Vec Ideal S64x64 .f32} {x4 : Vec Ideal S64x1 .f32}
  {lam co : Fin 64 → Fin 64 → ℝ} {w : Fin 64 → ℕ → ℕ → ℝ} (H : Reals x0 x1 x2 x3 x4 lam co w)
include H

/-- The rates' table. -/
theorem rate_apply (i n : Fin 64) : k1_pay5 x1 x4 (ix2 i n) = (lam i n : EReal) := by
  rw [← H.lam]
  pointwise [k1_pay5]

/-- The decay over one step. -/
theorem decay_apply (i n : Fin 64) : k1_pay7 x1 x4 (ix2 i n) = (Real.exp (lam i n) : EReal) := by
  pointwise [k1_pay7]
  rw [rate_apply H, Ideal.exp_coe]

/-- The decay over a chunk. -/
theorem chunkDecay_apply (i n : Fin 64) : k1_pay8 x1 x4 (ix2 i n) = (Real.exp (128 * lam i n) : EReal) := by
  pointwise [k1_pay8]
  rw [rate_apply H, ofBits_128, ← EReal.coe_mul, Ideal.exp_coe]

/-- What the row reads, as real numbers. -/
theorem rowReal (i : Fin 64) : RowReal i (k1_pay5 x1 x4) (k1_pay6 x2 x3 x4) (k1_pay7 x1 x4) (k1_pay8 x1 x4)
    (k1_pay9 (k1_pay7 x1 x4) (k1_pay8 x1 x4)) (View.ld x0 (rowRect i)) (lam i) (co i) (w i) where
  lr := rate_apply H i
  co n := by
    rw [← H.co]
    pointwise [k1_pay6]
  r1 := decay_apply H i
  rT := chunkDecay_apply H i
  rTm1 n := by
    pointwise [k1_pay9]
    rw [decay_apply H, chunkDecay_apply H, Ideal.div_coe (Real.exp_ne_zero _), one_mul, ← EReal.coe_mul, one_div, ← Real.exp_neg,
      ← Real.exp_add]
    congr 2
    ring
  u g t := by
    rw [← H.u]
    refine View.ld_unit_apply_of _ _ _ _ _ _ ?_
    exact fun a => by match a with
      | 0 => rfl
      | 1 => exact (Nat.zero_add _).symm
      | 2 => exact (Nat.zero_add _).symm

/-- A row's stored values, at an index. -/
theorem rowOut_apply (x5 : Vec Ideal S64x1 .f32) (i : Fin 64) (x : S1x64x128.Idx) :
    rowOut i x0 x1 x2 x3 x4 x5 x
      = (conv (w i ((x 1).val / 16)) (co i) (lam i) (128 * ((x 1).val % 16) + (x 2).val) : EReal)
        + x5 (ix2 i 0) * (w i ((x 1).val / 16) (128 * ((x 1).val % 16) + (x 2).val) : EReal) := by
  have hd : View.ld x5 (dRect i) (ix2 0 0) = x5 (ix2 i 0) := View.ld_unit_apply_of _ _ _ _ _ _ fun a => by
    match a with
    | 0 => rfl
    | 1 => rfl
  have e1 : View.ld x1 r1_0 = x1 := View.ld_unit_lit _ _ (by decide)
  have e2 : View.ld x2 r1_0 = x2 := View.ld_unit_lit _ _ (by decide)
  have e3 : View.ld x3 r1_0 = x3 := View.ld_unit_lit _ _ (by decide)
  have e4 : View.ld x4 r1_1 = x4 := View.ld_unit_lit _ _ (by decide)
  unfold rowOut
  rw [e1, e2, e3, e4]
  idx_vars x
  obtain rfl : x0 = 0 := Subsingleton.elim _ _
  rw [rowPay_apply (rowReal H i), hd]

/-- The block the kernel leaves, at an index. -/
theorem out_apply (x5 : Vec Ideal S64x1 .f32) (y : S64x64x128.Idx) :
    out1_6 x0 x1 x2 x3 x4 x5 y
      = (conv (w (y 0) ((y 1).val / 16)) (co (y 0)) (lam (y 0)) (128 * ((y 1).val % 16) + (y 2).val) : EReal)
        + x5 (ix2 (y 0) 0) * (w (y 0) ((y 1).val / 16) (128 * ((y 1).val % 16) + (y 2).val) : EReal) := by
  rw [out1_6_eq]
  let k0 : Fin 64 := y 0
  have hk : (Fin.rev (Fin.rev k0)).val = (y 0).val := congrArg Fin.val (Fin.rev_rev k0)
  show View.canon (List.ofFn fun j : Fin 64 => (⟨Rect.unit (s := S64x64x128) ![(Fin.rev j).val, 0, 0] S1x64x128.size
    (inb_row3 (Fin.rev j)), rowOut (Fin.rev j) x0 x1 x2 x3 x4 x5⟩ : View.Piece (Elt Ideal) S64x64x128 .bf16)) y = _
  refine View.canon_ofFn_unit_eq_of_forall _ _ _ _ y _ ⟨Fin.rev k0, ?_⟩ fun j => ?_
  · exact fun a => by match a with
      | 0 => exact ⟨Nat.le_of_eq hk, Nat.lt_succ_of_le (Nat.le_of_eq hk.symm)⟩
      | 1 => exact ⟨Nat.zero_le _, (Nat.zero_add 64).symm ▸ (y 1).isLt⟩
      | 2 => exact ⟨Nat.zero_le _, (Nat.zero_add 128).symm ▸ (y 2).isLt⟩
  · tile_intro x h
    refine (rowOut_apply H x5 j.rev x).trans ?_
    have e0 : j.rev = y 0 := Fin.ext (by omega)
    simp only [e0, h1, h2]

end

/-- The convolution of the whole arrays plus `D` times the input. -/
def G (D : S512x1.Idx → EReal) (lam co : Fin 512 → Fin 64 → ℝ) (w : Fin 512 → ℕ → ℕ → ℝ) : S512x64x128.Idx → EReal := fun i =>
  (conv (w (i 0) ((i 1).val / 16)) (co (i 0)) (lam (i 0)) (128 * ((i 1).val % 16) + (i 2).val) : EReal)
    + D (ix2 (i 0) 0) * (w (i 0) ((i 1).val / 16) (128 * ((i 1).val % 16) + (i 2).val) : EReal)

/-- Row `i` of block `q`. -/
def rowAt (q : Fin 8) (i : Fin 64) : Fin 512 := ⟨q.val * 64 + i.val, by omega⟩

/-- The second region's result array. -/
theorem arr_eq (V : (c : Dev nD) → (b : Ref sig .tc) → Buf (Elt Ideal) ((c : Thread nD τ).loc b)) (c : Dev nD)
    {lam co : Fin 512 → Fin 64 → ℝ} {w : Fin 512 → ℕ → ℕ → ℝ}
    (H : Reals (R := 512) (V c main_v4) (V c main_arg3) (V c main_arg4) (V c main_arg5) (V c main_v1) lam co w) :
    (dat1 V c).arrAt 6 cfg1.N = G (V c main_v2) lam co w := by
  refine (dat1 V c).arrAt_eq_of_covers 6 _ (by decide +kernel) fun t hf y => ?_
  have Ht : Reals (R := 64) (iblk1 V c 0 t) (iblk1 V c 1 t) (iblk1 V c 2 t) (iblk1 V c 3 t) (iblk1 V c 4 t)
      (fun i => lam (rowAt (grid1.coords t 0) i)) (fun i => co (rowAt (grid1.coords t 0) i))
      (fun i => w (rowAt (grid1.coords t 0) i)) := by
    have e1 : ∀ d n : Fin 64, (win1_1.blk t).view.emb (ix2 d n) = ix2 (rowAt (grid1.coords t 0) d) n := fun d n => by
      unfold rowAt; blk_ext [index1]
    have e2 : ∀ d n : Fin 64, (win1_2.blk t).view.emb (ix2 d n) = ix2 (rowAt (grid1.coords t 0) d) n := fun d n => by
      unfold rowAt; blk_ext [index2]
    have e3 : ∀ d n : Fin 64, (win1_3.blk t).view.emb (ix2 d n) = ix2 (rowAt (grid1.coords t 0) d) n := fun d n => by
      unfold rowAt; blk_ext [index3]
    have e4 : ∀ d : Fin 64, (win1_4.blk t).view.emb (ix2 d 0) = ix2 (rowAt (grid1.coords t 0) d) 0 := fun d => by
      unfold rowAt; blk_ext [index4]
    have e0 : ∀ (d g : Fin 64) (t' : Fin 128), (win1_0.blk t).view.emb (ix3 d g t') = ix3 (rowAt (grid1.coords t 0) d) g t' :=
      fun d g t' => by unfold rowAt; blk_ext [index0]
    refine ⟨fun d n => ?_, fun d n => ?_, fun d g t' => ?_⟩
    · rw [← H.lam]
      blk_simp [iblk1]
      rw [e1, e4]
    · rw [← H.co]
      blk_simp [iblk1]
      rw [e2, e3, e4]
    · rw [← H.u]
      blk_simp [iblk1]
      rw [e0]
  have e5 : ∀ d : Fin 64, (win1_5.blk t).view.emb (ix2 d 0) = ix2 (rowAt (grid1.coords t 0) d) 0 := fun d => by
    unfold rowAt; blk_ext [index5]
  have e6 : (win1_6.blk t).view.emb y 0 = rowAt (grid1.coords t 0) (y 0) := Fin.ext (by blk_simp [index6]; rfl)
  blk_simp
  rw [after1_6, out_apply Ht]
  unfold G
  blk_simp [iblk1, index6]
  have e7 := e5 (y 0)
  simp only [e6, e7]

end Cert.KernelIdeal.Region1

end
-- ==== Proof.Region2.lean ====
/-
  The out-projection: the array the last region leaves, at an index.
-/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Region2

open Idealize.ShloMosaic Idealize.ShloMosaic.TcCoe Idealize.ShloMosaic.Tactic Cert.KernelIdeal Cert.KernelIdeal.Gen
open Idealize.ShloMosaic.Pipeline (Dat)

/-- The block of the channels a grid point handles. -/
theorem index0 : ∀ t : Fin cfg2.N, win2_0.index t = ![0, (grid2.coords t 1).val] :=
  (by decide +kernel : ∀ t : Fin grid2.N, win2_0.index t = ![0, (grid2.coords t 1).val])
/-- The block of `W_out` a grid point handles. -/
theorem index1 : ∀ t : Fin cfg2.N, win2_1.index t = ![(grid2.coords t 0).val, 0] :=
  (by decide +kernel : ∀ t : Fin grid2.N, win2_1.index t = ![(grid2.coords t 0).val, 0])
/-- The block of `b_out` a grid point handles. -/
theorem index2 : ∀ t : Fin cfg2.N, win2_2.index t = ![0, (grid2.coords t 0).val] :=
  (by decide +kernel : ∀ t : Fin grid2.N, win2_2.index t = ![0, (grid2.coords t 0).val])
/-- The block of the result a grid point handles. -/
theorem index3 : ∀ t : Fin cfg2.N, win2_3.index t = ![(grid2.coords t 1).val, 0, (grid2.coords t 0).val] :=
  (by decide +kernel : ∀ t : Fin grid2.N, win2_3.index t = ![(grid2.coords t 1).val, 0, (grid2.coords t 0).val])

/-- The block the kernel stores, at an index. -/
theorem pay_apply (y : Vec Ideal S512x2048 .bf16) (w : Vec Ideal S256x512 .f32) (b : Vec Ideal S1x256 .f32)
    (j : S1x2048x256.Idx) :
    k2_pay1 y w b j = ∑ x : Fin 512, y (ix2 x (j 1)) * w (ix2 (j 2) x) + b (ix2 0 (j 2)) := by
  idx_vars j
  pointwise [k2_pay1]

/-- The block the kernel leaves is the stored one. -/
theorem out_eq (x0 : Vec Ideal S512x2048 .bf16) (x1 : Vec Ideal S256x512 .f32) (x2 : Vec Ideal S1x256 .f32) :
    out2_3 x0 x1 x2 = k2_pay1 x0 x1 x2 := by
  unfold out2_3
  rw [View.canon_cons_unit_lit, View.ld_unit_lit, View.ld_unit_lit, View.ld_unit_lit] <;> decide

/-- The out-projection of the whole arrays. -/
def G (y : S512x8192.Idx → EReal) (w : S512x512.Idx → EReal) (b : S1x512.Idx → EReal) : S4x2048x512.Idx → EReal := fun i =>
  ∑ x : Fin 512, y (ix2 x ⟨2048 * (i 0).val + (i 1).val, by idx_bounds i; omega⟩) * w (ix2 (i 2) x) + b (ix2 0 (i 2))

/-- The result array after the last region. -/
theorem arr_eq (V : (c : Dev nD) → (b : Ref sig .tc) → Buf (Elt Ideal) ((c : Thread nD τ).loc b)) (c : Dev nD) :
    (dat2 V c).arrAt 3 cfg2.N = G (V c main_v6) (V c main_arg8) (V c main_v3) := by
  refine (dat2 V c).arrAt_eq_of_covers 3 _ (by decide +kernel) fun t hf y => ?_
  blk_simp
  rw [after2_3, out_eq, pay_apply]
  unfold G
  blk_simp [iblk2]
  refine congrArg₂ (· + ·) (Finset.sum_congr rfl fun x _ => congrArg₂ (· * ·) (congrArg _ ?_) (congrArg _ ?_)) (congrArg _ ?_)
  · blk_ext [index0, index3]
  · blk_ext [index1, index3]
  · blk_ext [index2, index3]

end Cert.KernelIdeal.Region2

end
-- ==== Proof.KernelVal.lean ====
/-
  The kernel's result array as the result function of its arguments: the three regions' arrays put together through
  the host reshapes between them.
-/
module

public import proofs.«01_k».proof.Proof.KRun
public import proofs.«01_k».proof.Proof.Common
public import proofs.«01_k».proof.Proof.Region0
public import proofs.«01_k».proof.Proof.Region1
public import proofs.«01_k».proof.Proof.Region2

@[expose] public section

set_option maxRecDepth 16384

noncomputable section

namespace Cert.KernelIdeal.KernelVal

open Idealize.ShloMosaic Idealize.ShloMosaic.TcCoe Idealize.ShloMosaic.Tactic Cert.KernelIdeal Cert.KernelIdeal.Gen
open Cert.Ssm

variable (m : (ℓ : Loc nD τ sig) → Buf (Elt Ideal) ℓ) (ρ : Dev nD → PrngReg)

/-- `b_in` as a column. -/
theorem v0_apply (c : Dev nD) (d : Fin 512) : V1 m ρ c main_v0 (ix2 d 0) = m ((c : Thread nD τ).loc main_arg2) (ix1 d) := by
  show StableHlo.after hostOps0 (W0 m ρ c) (Proc.devRef .tc main_v0) _ = _
  after_results
  show shapeCast _ _ _ _ = _
  pointwise []

/-- The step sizes as a column. -/
theorem v1_apply (c : Dev nD) (d : Fin 512) : V1 m ρ c main_v1 (ix2 d 0) = m ((c : Thread nD τ).loc main_arg7) (ix1 d) := by
  show StableHlo.after hostOps0 (W0 m ρ c) (Proc.devRef .tc main_v1) _ = _
  after_results
  show shapeCast _ _ _ _ = _
  pointwise []

/-- `D` as a column. -/
theorem v2_apply (c : Dev nD) (d : Fin 512) : V1 m ρ c main_v2 (ix2 d 0) = m ((c : Thread nD τ).loc main_arg6) (ix1 d) := by
  show StableHlo.after hostOps0 (W0 m ρ c) (Proc.devRef .tc main_v2) _ = _
  after_results
  show shapeCast _ _ _ _ = _
  pointwise []

/-- `b_out` as a row. -/
theorem v3_apply (c : Dev nD) (o : Fin 512) : V1 m ρ c main_v3 (ix2 0 o) = m ((c : Thread nD τ).loc main_arg9) (ix1 o) := by
  show StableHlo.after hostOps0 (W0 m ρ c) (Proc.devRef .tc main_v3) _ = _
  after_results
  show shapeCast _ _ _ _ = _
  pointwise []

/-- The second region's output as the last region reads it: chunks joined, column `p` of the last region's input being
    step `p % 128` of chunk `p / 128`. -/
theorem v6_apply (c : Dev nD) (d : Fin 512) (p : Fin 8192) :
    V4 m ρ c main_v6 (ix2 d p)
      = W3 m ρ c (Proc.devRef .tc main_v5) (ix3 d ⟨p.val / 128, by omega⟩ ⟨p.val % 128, by omega⟩) := by
  show StableHlo.after hostOps2 (W3 m ρ c) (Proc.devRef .tc main_v6) _ = _
  after_results
  show shapeCast _ _ _ _ = _
  pointwise []

/-- The first region's result at an index. -/
theorem g0_apply (x : S4x2048x512.Idx → EReal) (wi : S512x512.Idx → EReal) (b : S512x1.Idx → EReal) (d : Fin 512) (g : Fin 64)
    (t : Fin 128) : Region0.G x wi b (ix3 d g t) = ∑ k : Fin 512, wi (ix2 d k) * x (ix3 ⟨g.val / 16, by omega⟩
      ⟨128 * (g.val % 16) + t.val, by omega⟩ k) + b (ix2 d 0) := rfl

/-- The second region's result at chunk `p / 128` and step `p % 128`, `p` the place of batch `q` and step `l`. -/
theorem g1_apply (D : S512x1.Idx → EReal) (lam co : Fin 512 → Fin 64 → ℝ) (w : Fin 512 → ℕ → ℕ → ℝ) (d : Fin 512) (q : Fin 4)
    (l : Fin 2048) : Region1.G D lam co w (ix3 d ⟨(2048 * q.val + l.val) / 128, by omega⟩ ⟨(2048 * q.val + l.val) % 128, by omega⟩)
      = (conv (w d q) (co d) (lam d) l : EReal) + D (ix2 d 0) * (w d q l : EReal) := by
  show (conv (w d ((2048 * q.val + l.val) / 128 / 16)) (co d) (lam d)
      (128 * ((2048 * q.val + l.val) / 128 % 16) + (2048 * q.val + l.val) % 128) : EReal)
    + D (ix2 d 0) * (w d ((2048 * q.val + l.val) / 128 / 16)
      (128 * ((2048 * q.val + l.val) / 128 % 16) + (2048 * q.val + l.val) % 128) : EReal) = _
  rw [show (2048 * q.val + l.val) / 128 / 16 = q.val by omega,
    show 128 * ((2048 * q.val + l.val) / 128 % 16) + (2048 * q.val + l.val) % 128 = l.val by omega]

/-- The last region's result is the result function when its input is the convolution plus `D` times the sequence. -/
theorem g2_eq {y : S512x8192.Idx → EReal} {wo : S512x512.Idx → EReal} {b : S1x512.Idx → EReal} {D bo : S512.Idx → EReal}
    {lam co : Fin 512 → Fin 64 → ℝ} {w : Fin 512 → ℕ → ℕ → ℝ}
    (hy : ∀ (d : Fin 512) (q : Fin 4) (l : Fin 2048) (h : 2048 * q.val + l.val < 8192),
      y (ix2 d ⟨2048 * q.val + l.val, h⟩) = mix D lam co w d q.val l.val)
    (hb : ∀ o : Fin 512, b (ix2 0 o) = bo (ix1 o)) : Region2.G y wo b = result D wo bo lam co w := by
  funext i
  exact congrArg₂ (· + ·) (Finset.sum_congr rfl fun d _ => congrArg (· * _) (hy d (i 0) (i 1) _)) (hb (i 2))

/-- The first region's output as the second reads it. -/
theorem v4_eq (c : Dev nD) : V2 m ρ c main_v4 = Region0.G (m ((c : Thread nD τ).loc main_arg0))
    (m ((c : Thread nD τ).loc main_arg1)) (V1 m ρ c main_v0) := by
  have h0 : V1 m ρ c main_arg0 = m ((c : Thread nD τ).loc main_arg0) := W1_args m ρ c main_arg0 (by decide)
  have h1 : V1 m ρ c main_arg1 = m ((c : Thread nD τ).loc main_arg1) := W1_args m ρ c main_arg1 (by decide)
  rw [← h0, ← h1]
  exact (W2_arr m ρ c 3).trans (Region0.arr_eq (V1 m ρ) c)

section
variable {m} {lam co : Fin 512 → Fin 64 → ℝ} {w : Fin 512 → ℕ → ℕ → ℝ} {c : Dev nD}
  (H : Inputs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg7)) lam co w)
include H

/-- What the second region reads, as real numbers. -/
theorem reals : Region1.Reals (R := 512) (V2 m ρ c main_v4) (V2 m ρ c main_arg3) (V2 m ρ c main_arg4) (V2 m ρ c main_arg5)
    (V2 m ρ c main_v1) lam co w := by
  have h1 : ∀ d : Fin 512, V2 m ρ c main_v1 (ix2 d 0) = m ((c : Thread nD τ).loc main_arg7) (ix1 d) := fun d =>
    (congrFun (W2_of m ρ c main_v1 (by decide)) _).trans (v1_apply m ρ c d)
  have h3 : V2 m ρ c main_arg3 = m ((c : Thread nD τ).loc main_arg3) := W2_args m ρ c main_arg3 (by decide)
  have h4 : V2 m ρ c main_arg4 = m ((c : Thread nD τ).loc main_arg4) := W2_args m ρ c main_arg4 (by decide)
  have h5 : V2 m ρ c main_arg5 = m ((c : Thread nD τ).loc main_arg5) := W2_args m ρ c main_arg5 (by decide)
  refine ⟨fun d n => ?_, fun d n => ?_, fun d g t => ?_⟩
  · rw [h1, h3]; exact H.lam d n
  · rw [h1, h4, h5]; exact H.co d n
  · rw [v4_eq, g0_apply, v0_apply]
    exact H.w d ⟨g.val / 16, by omega⟩ ⟨128 * (g.val % 16) + t.val, by omega⟩

/-- The second region's output as the last reads it: at batch `q` and step `l`, the convolution plus `D` times the
    sequence. -/
theorem y_apply (d : Fin 512) (q : Fin 4) (l : Fin 2048) (h : 2048 * q.val + l.val < 8192) :
    V4 m ρ c main_v6 (ix2 d ⟨2048 * q.val + l.val, h⟩) = mix (m ((c : Thread nD τ).loc main_arg6)) lam co w d q.val l.val := by
  have h2 : V2 m ρ c main_v2 (ix2 d 0) = m ((c : Thread nD τ).loc main_arg6) (ix1 d) :=
    (congrFun (W2_of m ρ c main_v2 (by decide)) _).trans (v2_apply m ρ c d)
  rw [v6_apply, (W3_arr m ρ c 6).trans (Region1.arr_eq (V2 m ρ) c (reals ρ H))]
  refine (g1_apply (V2 m ρ c main_v2) lam co w d q l).trans ?_
  rw [h2]
  rfl

/-- The kernel's result array is the result function of its arguments. -/
theorem out_eq : (dat2 (V4 m ρ) c).arrAt 3 cfg2.N
    = result (m ((c : Thread nD τ).loc main_arg6)) (m ((c : Thread nD τ).loc main_arg8)) (m ((c : Thread nD τ).loc main_arg9))
      lam co w := by
  have h3 : ∀ o : Fin 512, V4 m ρ c main_v3 (ix2 0 o) = m ((c : Thread nD τ).loc main_arg9) (ix1 o) := fun o =>
    (congrFun ((W4_of m ρ c main_v3 (by decide)).trans
      ((W3_of m ρ c main_v3 (by decide)).trans (W2_of m ρ c main_v3 (by decide)))) _).trans (v3_apply m ρ c o)
  have h8 : V4 m ρ c main_arg8 = m ((c : Thread nD τ).loc main_arg8) := W4_args m ρ c main_arg8 (by decide)
  rw [Region2.arr_eq, h8]
  exact g2_eq (y_apply ρ H) h3

end

end Cert.KernelIdeal.KernelVal

end
-- ==== Proof.RefVal.lean ====
/-
  The reference's result array as the result function of its arguments.
-/
module

public import proofs.«01_k».proof.Proof.Gen.ReferenceIdeal.Run
public import proofs.«01_k».proof.Proof.Common
public import Idealize.ShloMosaic.Lib.Pointwise
public import Idealize.ShloMosaic.Lib.Tactic
public import Idealize.ShloMosaic.Lib.Affine
public import Idealize.ShloMosaic.Lib.WordCmp

@[expose] public section

set_option maxRecDepth 16384

noncomputable section

namespace Cert.ReferenceIdeal.RefVal

open Idealize.ShloMosaic Idealize.ShloMosaic.TcCoe Idealize.ShloMosaic.Tactic Cert.ReferenceIdeal Cert.ReferenceIdeal.Value
open Cert.Ssm

/-! ## The reference's stages, named -/

/-- The sequences: the in-projection, channels before steps. -/
def seq (x : FVec Ideal S4x2048x512 .f32) (wi : FVec Ideal S512x512 .f32) (bi : FVec Ideal S512 .f32) :
    FVec Ideal S4x512x2048 .f32 :=
  transpose S4x512x2048 [0, 2, 1]
    (addf
      (Host.dotGeneral dot_S4x2048x512_S512x512_S4x2048x512_2_0_01_1_n_n none x
        (transpose S512x512 [1, 0] wi Gen.transposes_S512x512_S512x512_1_0))
      (broadcastInDim S4x2048x512 ![0, 1, 2] Gen.bcast_S1x1x512_S4x2048x512_0_1_2
        (broadcastInDim S1x1x512 ![2] Gen.bcast_S512_S1x1x512_2 bi)))
    Gen.transposes_S4x2048x512_S4x512x2048_0_2_1

/-- A step size for every state. -/
def steps (dt : FVec Ideal S512 .f32) : FVec Ideal S512x64 .f32 :=
  broadcastInDim S512x64 ![0, 1] Gen.bcast_S512x1_S512x64_0_1 (broadcastInDim S512x1 ![0] Gen.bcast_S512_S512x1_0 dt)

/-- The convolution's kernel at every lag. -/
def ker (a b c : FVec Ideal S512x64 .f32) (dt : FVec Ideal S512 .f32) : FVec Ideal S512x2048 .f32 :=
  Host.dotGeneral dot_S512x64_S512x64x2048_S512x2048_1_1_n_2_0_0 none
    (mulf (mulf c b) (steps dt))
    (Host.exp
      (mulf
        (broadcastInDim S512x64x2048 ![0, 1, 2] Gen.bcast_S512x64x1_S512x64x2048_0_1_2
          (broadcastInDim S512x64x1 ![0, 1] Gen.bcast_S512x64_S512x64x1_0_1 (mulf (Host.negf (Host.exp a)) (steps dt))))
        (broadcastInDim S512x64x2048 ![0, 1, 2] Gen.bcast_S1x1x2048_S512x64x2048_0_1_2
          (broadcastInDim S1x1x2048 ![2] Gen.bcast_S2048_S1x1x2048_2 (sitofp .f32 (iotaInDim S2048 32 0))))))

/-- The lag of an output step behind an input step. -/
def lag : IVec S2048x2048 32 :=
  subi
    (broadcastInDim S2048x2048 ![0, 1] Gen.bcast_S2048x1_S2048x2048_0_1
      (broadcastInDim S2048x1 ![0] Gen.bcast_S2048_S2048x1_0 (iotaInDim S2048 32 0)))
    (broadcastInDim S2048x2048 ![0, 1] Gen.bcast_S1x2048_S2048x2048_0_1
      (broadcastInDim S1x2048 ![1] Gen.bcast_S2048_S1x2048_1 (iotaInDim S2048 32 0)))

/-- Zero at every pair of steps. -/
def zeros : IVec S2048x2048 32 := broadcastInDim S2048x2048 ![] Gen.bcast_S_S2048x2048 (constantI S_ 32 0#32)

/-- The lag with the negative ones at zero. -/
def lagPos : IVec S2048x2048 32 := maxsi lag zeros

/-- The place the kernel is read at. -/
def place : IVec S2048x2048 32 :=
  select (cmpi .slt lagPos zeros)
    (addi lagPos (broadcastInDim S2048x2048 ![] Gen.bcast_S_S2048x2048 (constantI S_ 32 2048#32))) lagPos

/-- The kernel at every pair of steps, zero where the output step is before the input step. -/
def toeplitz (k : FVec Ideal S512x2048 .f32) : FVec Ideal S512x2048x2048 .f32 :=
  select
    (broadcastInDim S512x2048x2048 ![1, 2] Gen.bcast_S2048x2048_S512x2048x2048_1_2 (cmpi .sge lag zeros))
    (Host.gather gather_S512x2048_S2048x2048x1_S512x2048x2048_0_1_n_n_1_2_5121 k
      (broadcastInDim S2048x2048x1 ![0, 1] Gen.bcast_S2048x2048_S2048x2048x1_0_1 place))
    (broadcastInDim S512x2048x2048 ![] Gen.bcast_S_S512x2048x2048 (id (constant S_ .f32 0#32)))

/-- The convolution plus `D` times the sequence. -/
def mixed (u : FVec Ideal S4x512x2048 .f32) (t : FVec Ideal S512x2048x2048 .f32) (D : FVec Ideal S512 .f32) :
    FVec Ideal S4x512x2048 .f32 :=
  addf
    (transpose S4x512x2048 [1, 0, 2] (Host.dotGeneral dot_S4x512x2048_S512x2048x2048_S512x4x2048_2_2_0_1_1_0 none u t)
      Gen.transposes_S512x4x2048_S4x512x2048_1_0_2)
    (mulf
      (broadcastInDim S4x512x2048 ![0, 1, 2] Gen.bcast_S1x512x1_S4x512x2048_0_1_2
        (broadcastInDim S1x512x1 ![1, 2] Gen.bcast_S512x1_S1x512x1_1_2
          (broadcastInDim S512x1 ![0] Gen.bcast_S512_S512x1_0 D)))
      u)

/-- The out-projection. -/
def proj (y : FVec Ideal S4x512x2048 .f32) (wo : FVec Ideal S512x512 .f32) (bo : FVec Ideal S512 .f32) :
    FVec Ideal S4x2048x512 .f32 :=
  addf
    (Host.dotGeneral dot_S4x2048x512_S512x512_S4x2048x512_2_0_01_1_n_n none
      (transpose S4x2048x512 [0, 2, 1] y Gen.transposes_S4x512x2048_S4x2048x512_0_2_1)
      (transpose S512x512 [1, 0] wo Gen.transposes_S512x512_S512x512_1_0))
    (broadcastInDim S4x2048x512 ![0, 1, 2] Gen.bcast_S1x1x512_S4x2048x512_0_1_2
      (broadcastInDim S1x1x512 ![2] Gen.bcast_S512_S1x1x512_2 bo))

/-- The reference's result is its stages one after another. -/
theorem res_eq (m : (ℓ : Loc nD τ sig) → Buf (Elt Ideal) ℓ) (c : Dev nD) : res_main_v53 m c
    = proj (mixed (seq (m (c.tc.loc main_arg0)) (m (c.tc.loc main_arg1)) (m (c.tc.loc main_arg2)))
        (toeplitz (ker (m (c.tc.loc main_arg3)) (m (c.tc.loc main_arg4)) (m (c.tc.loc main_arg5)) (m (c.tc.loc main_arg7))))
        (m (c.tc.loc main_arg6))) (m (c.tc.loc main_arg8)) (m (c.tc.loc main_arg9)) := by
  sl_kernel_rfl

/-! ## The stages at an index -/

/-- The sequences at batch `q`, channel `d`, step `l`. -/
theorem seq_apply (x : FVec Ideal S4x2048x512 .f32) (wi : FVec Ideal S512x512 .f32) (bi : FVec Ideal S512 .f32)
    (q : Fin 4) (d : Fin 512) (l : Fin 2048) :
    seq x wi bi (ix3 q d l) = ∑ k : Fin 512, x (ix3 q l k) * wi (ix2 d k) + bi (ix1 d) := by
  pointwise [seq]

/-- The kernel of channel `d` at lag `l`: the sum over its states. -/
theorem ker_apply (a b c : FVec Ideal S512x64 .f32) (dt : FVec Ideal S512 .f32) (d : Fin 512) (l : Fin 2048) :
    ker a b c dt (ix2 d l) = ∑ n : Fin 64, c (ix2 d n) * b (ix2 d n) * dt (ix1 d)
      * Ideal.exp (-Ideal.exp (a (ix2 d n)) * dt (ix1 d) * FloatOps.sitofp (F := Ideal) FTy.f32 (BitVec.ofNat 32 l.val)) := by
  pointwise [ker, steps]

/-- The convolution as a sum over the input steps, plus `D` times the sequence. -/
theorem mixed_apply (u : FVec Ideal S4x512x2048 .f32) (t : FVec Ideal S512x2048x2048 .f32) (D : FVec Ideal S512 .f32)
    (q : Fin 4) (d : Fin 512) (l : Fin 2048) :
    mixed u t D (ix3 q d l) = ∑ i : Fin 2048, u (ix3 q d i) * t (ix3 d l i) + D (ix1 d) * u (ix3 q d l) := by
  pointwise [mixed]

/-- The out-projection at an index. -/
theorem proj_apply (y : FVec Ideal S4x512x2048 .f32) (wo : FVec Ideal S512x512 .f32) (bo : FVec Ideal S512 .f32)
    (q : Fin 4) (l : Fin 2048) (o : Fin 512) :
    proj y wo bo (ix3 q l o) = ∑ d : Fin 512, y (ix3 q d l) * wo (ix2 o d) + bo (ix1 o) := by
  pointwise [proj]

/-! ## The kernel at every pair of steps -/

/-- The lag as the difference of two words. -/
theorem lag_apply (t i : Fin 2048) : lag (ix2 t i) = BitVec.ofNat 32 t.val - BitVec.ofNat 32 i.val := by
  pointwise [lag]
  rfl

/-- The lag read as a signed number. -/
theorem lag_toInt (t i : Fin 2048) : (lag (ix2 t i)).toInt = (t.val : ℤ) - i.val := by
  rw [lag_apply, BitVec.toInt_sub, WordCmp.toInt_ofNat_of_lt (by omega), WordCmp.toInt_ofNat_of_lt (by omega)]
  exact Int.bmod_eq_of_le (by omega) (by omega)

/-- The place at a pair of steps, as the words are computed. -/
theorem place_apply (t i : Fin 2048) : place (ix2 t i) = Scalar.select
    (IntOp.cmpi .slt (IntOp.maxsi (lag (ix2 t i)) 0#32) 0#32) (IntOp.addi (IntOp.maxsi (lag (ix2 t i)) 0#32) 2048#32)
    (IntOp.maxsi (lag (ix2 t i)) 0#32) := by
  pointwise [place, lagPos, zeros]

/-- At a lag that is not negative the place is the lag. -/
theorem place_toInt (t i : Fin 2048) (h : i.val ≤ t.val) : (place (ix2 t i)).toInt = ((t.val - i.val : ℕ) : ℤ) := by
  have hl : lag (ix2 t i) = BitVec.ofNat 32 (t.val - i.val) := BitVec.eq_of_toInt_eq (by
    rw [lag_toInt, WordCmp.toInt_ofNat_of_lt (by omega)]; omega)
  have hm : IntOp.maxsi (BitVec.ofNat 32 (t.val - i.val)) 0#32 = BitVec.ofNat 32 (t.val - i.val) :=
    Scalar.maxsi_zero_of_nonneg (by rw [BitVec.toNat_ofNat]; omega)
  rw [place_apply, hl, hm]
  rw [show (0#32 : BitVec 32) = BitVec.ofNat 32 0 from rfl, WordCmp.cmpi_slt_ofNat (by omega) (by omega), WordCmp.select_ofBool]
  simp only [Nat.not_lt_zero, decide_false, Bool.false_eq_true, if_false]
  exact WordCmp.toInt_ofNat_of_lt (by omega)

/-- The gather along the lags: row `d` at the place its indices name, when that is within the row. -/
theorem gather_apply (k : FVec Ideal S512x2048 .f32) (p : IVec S2048x2048x1 32) (d : Fin 512) (t i : Fin 2048) (n : Fin 2048)
    (h : (p (ix3 t i 0)).toInt = (n.val : ℤ)) :
    Host.gather gather_S512x2048_S2048x2048x1_S512x2048x2048_0_1_n_n_1_2_5121 k p (ix3 d t i) = k (ix2 d n) := by
  unfold Host.gather
  congr 1
  funext a
  refine Fin.ext ?_
  show GatherDims.start _ (ix3 d t i) p a + GatherDims.batchCoord _ (ix3 d t i) a + GatherDims.offCoord _ (ix3 d t i) a = _
  rw [GatherDims.batchCoord_eq_zero _ _ _ List.not_mem_nil]
  have hb : GatherDims.offCoord gather_S512x2048_S2048x2048x1_S512x2048x2048_0_1_n_n_1_2_5121 (ix3 d t i) (0 : Fin 2) = d.val := rfl
  have h0 : GatherDims.start gather_S512x2048_S2048x2048x1_S512x2048x2048_0_1_n_n_1_2_5121 (ix3 d t i) p (0 : Fin 2) = 0 := rfl
  have h1 : GatherDims.offCoord gather_S512x2048_S2048x2048x1_S512x2048x2048_0_1_n_n_1_2_5121 (ix3 d t i) (1 : Fin 2) = 0 := rfl
  match a with
  | ⟨0, _⟩ =>
    refine (congrArg₂ (· + 0 + ·) h0 hb).trans ?_
    exact Nat.zero_add _
  | ⟨1, _⟩ =>
    refine (congrArg (GatherDims.start gather_S512x2048_S2048x2048x1_S512x2048x2048_0_1_n_n_1_2_5121 (ix3 d t i) p (1 : Fin 2) + 0 + ·) h1).trans ?_
    unfold GatherDims.start
    rw [dif_pos (show (1 : Fin 2) ∈ gather_S512x2048_S2048x2048x1_S512x2048x2048_0_1_n_n_1_2_5121.startIndexMap from
      List.mem_singleton.mpr rfl)]
    have hs : ∀ z, GatherDims.siIdx gather_S512x2048_S2048x2048x1_S512x2048x2048_0_1_n_n_1_2_5121 (ix3 d t i) z = ix3 t i 0 := by
      intro z
      funext b; refine Fin.ext ?_
      match b with
      | ⟨0, _⟩ => rfl
      | ⟨1, _⟩ => rfl
      | ⟨2, _⟩ =>
        have := z.isLt
        change z.val < 1 at this
        show z.val = 0
        omega
    rw [hs, h]
    show min _ 2047 + 0 = n.val
    omega

/-- The kernel at output step `t` and input step `i`. -/
theorem toeplitz_apply (k : FVec Ideal S512x2048 .f32) (d : Fin 512) (t i : Fin 2048) :
    toeplitz k (ix3 d t i) = if i.val ≤ t.val then k (ix2 d ⟨t.val - i.val, by omega⟩) else 0 := by
  pointwise [toeplitz, zeros]
  have hc : IntOp.cmpi .sge (lag (ix2 t i)) 0#32 = BitVec.ofBool (decide (i.val ≤ t.val)) := by
    rw [show IntOp.cmpi .sge (lag (ix2 t i)) 0#32 = BitVec.ofBool (decide ((0 : ℤ) ≤ (lag (ix2 t i)).toInt)) by
      simp [IntOp.cmpi, BitVec.sle_eq_decide], lag_toInt]
    congr 2
    exact propext ⟨fun h => by omega, fun h => by omega⟩
  rw [hc, WordCmp.select_ofBool]
  by_cases h : i.val ≤ t.val
  · simp only [h, decide_true, if_true]
    exact gather_apply _ _ d t i ⟨t.val - i.val, by omega⟩ (by
      refine Eq.trans ?_ (place_toInt t i h)
      pointwise [])
  · simp only [h, decide_false, Bool.false_eq_true, if_false]
    show Ideal.ofBits .f32 0 = 0
    simp [Ideal.ofBits, Ideal.ieee]

/-! ## The result -/

section
variable {x : FVec Ideal S4x2048x512 .f32} {wi : FVec Ideal S512x512 .f32} {bi : FVec Ideal S512 .f32}
  {a b c : FVec Ideal S512x64 .f32} {dt : FVec Ideal S512 .f32} {lam co : Fin 512 → Fin 64 → ℝ} {w : Fin 512 → ℕ → ℕ → ℝ}
  (H : Inputs x wi bi a b c dt lam co w)
include H

/-- The sequences are the real ones. -/
theorem seq_real (q : Fin 4) (d : Fin 512) (l : Fin 2048) : seq x wi bi (ix3 q d l) = (w d q.val l.val : EReal) := by
  rw [seq_apply, ← H.w d q l]
  exact congrArg (· + _) (Finset.sum_congr rfl fun k _ => mul_comm _ _)

/-- The kernel at a lag is the real one. -/
theorem ker_real (d : Fin 512) (l : Fin 2048) : ker a b c dt (ix2 d l) = (lagK (co d) (lam d) l.val : EReal) := by
  rw [ker_apply]
  unfold lagK
  rw [coe_sum]
  refine Finset.sum_congr rfl fun n _ => ?_
  rw [mul_comm (c _) (b _), H.co, ← zero_sub, H.lam]
  rw [show FloatOps.sitofp (F := Ideal) FTy.f32 (BitVec.ofNat 32 l.val) = ((l.val : ℝ) : EReal) from by
    show (((BitVec.ofNat 32 l.val).toInt : ℝ) : EReal) = _
    rw [WordCmp.toInt_ofNat_of_lt (by omega), Int.cast_natCast]]
  rw [← EReal.coe_mul, Ideal.exp_coe, ← EReal.coe_mul, mul_comm (lam d n)]

/-- The convolution plus `D` times the sequence. -/
theorem mixed_real (D : FVec Ideal S512 .f32) (q : Fin 4) (d : Fin 512) (l : Fin 2048) :
    mixed (seq x wi bi) (toeplitz (ker a b c dt)) D (ix3 q d l) = mix D lam co w d q.val l.val := by
  rw [mixed_apply, seq_real H]
  refine congrArg (· + _) ?_
  rw [← conv_masked, coe_sum]
  refine Finset.sum_congr rfl fun i _ => ?_
  rw [seq_real H, toeplitz_apply, EReal.coe_mul]
  refine congrArg (_ * ·) ?_
  by_cases h : i.val ≤ l.val
  · rw [if_pos h, if_pos h, ker_real H]
  · rw [if_neg h, if_neg h, EReal.coe_zero]

/-- The stages together are the result function. -/
theorem proj_real (D : FVec Ideal S512 .f32) (wo : FVec Ideal S512x512 .f32) (bo : FVec Ideal S512 .f32) :
    proj (mixed (seq x wi bi) (toeplitz (ker a b c dt)) D) wo bo = result D wo bo lam co w := by
  funext i
  obtain ⟨q, l, o, rfl⟩ : ∃ q l o, i = ix3 q l o := ⟨i 0, i 1, i 2, by funext z; match z with | ⟨0, _⟩ => rfl | ⟨1, _⟩ => rfl | ⟨2, _⟩ => rfl⟩
  rw [proj_apply]
  exact congrArg (· + _) (Finset.sum_congr rfl fun d _ => congrArg (· * _) (mixed_real H D q d l))

end

/-- The reference's result array is the result function of its arguments. -/
theorem out_eq (m : (ℓ : Loc nD τ sig) → Buf (Elt Ideal) ℓ) (c : Dev nD) {lam co : Fin 512 → Fin 64 → ℝ}
    {w : Fin 512 → ℕ → ℕ → ℝ}
    (H : Inputs (m (c.tc.loc main_arg0)) (m (c.tc.loc main_arg1)) (m (c.tc.loc main_arg2)) (m (c.tc.loc main_arg3))
      (m (c.tc.loc main_arg4)) (m (c.tc.loc main_arg5)) (m (c.tc.loc main_arg7)) lam co w) :
    res_main_v53 m c = result (m (c.tc.loc main_arg6)) (m (c.tc.loc main_arg8)) (m (c.tc.loc main_arg9)) lam co w :=
  (res_eq m c).trans (proj_real H _ _ _)

end Cert.ReferenceIdeal.RefVal

end
-- ==== Proof.Finite.lean ====
/-
  What the precondition gives: the arguments it names hold real numbers, so the rates, the coefficients and the sequences
  are real.
-/
module

public import proofs.«01_k».proof.Proof.Common
public import proofs.«01_k».proof.Proof.Gen.Pre_finite_inputs
public import Idealize.ShloMosaic.Lib.Pointwise

@[expose] public section

set_option maxRecDepth 16384

noncomputable section

namespace Cert.Ssm

open Idealize.ShloMosaic Idealize.ShloMosaic.Tactic Cert.Pre_finite_inputs

/-- The pattern the precondition compares with is `⊤`. -/
theorem inf_eq : Ideal.ofBits .f32 0x7F800000#32 = ⊤ := by simp [Ideal.ofBits, Ideal.ieee]

/-- A comparison with `⊤` that is true says the value is below `⊤`. -/
theorem lt_of_cmp {v : EReal} (h : Ideal.cmp .olt v (Ideal.ofBits .f32 0x7F800000#32) = 1#1) : v < ⊤ := by
  rw [inf_eq] at h
  by_contra hn
  simp [Ideal.cmp, hn] at h

/-- A value whose absolute value is below `⊤` is real. -/
theorem real_of_cmp {v : EReal} (h : Ideal.cmp .olt (max v (-v)) (Ideal.ofBits .f32 0x7F800000#32) = 1#1) :
    ∃ r : ℝ, v = (r : EReal) := by
  have hl := max_lt_iff.1 (lt_of_cmp h)
  refine ⟨v.toReal, (EReal.coe_toReal hl.1.ne ?_).symm⟩
  rintro rfl
  simp at hl

/-- The exponential below `⊤` is real. -/
theorem exp_real {v : EReal} (h : v < ⊤) : ∃ r : ℝ, Ideal.exp v = (r : EReal) := by
  induction v using EReal.rec with
  | bot => exact ⟨0, rfl⟩
  | coe r => exact ⟨Real.exp r, rfl⟩
  | top => exact absurd h (lt_irrefl _)

/-- Arrays that are real where the precondition says so give real rates, coefficients and sequences. -/
theorem inputs_of_real {x : (⟨3, ![4, 2048, 512]⟩ : Shape).Idx → EReal} {wi : (⟨2, ![512, 512]⟩ : Shape).Idx → EReal}
    {bi : (⟨1, ![512]⟩ : Shape).Idx → EReal} {a b c : (⟨2, ![512, 64]⟩ : Shape).Idx → EReal}
    {dt : (⟨1, ![512]⟩ : Shape).Idx → EReal} (hx : ∀ i, ∃ r : ℝ, x i = (r : EReal)) (hwi : ∀ i, ∃ r : ℝ, wi i = (r : EReal))
    (hbi : ∀ i, ∃ r : ℝ, bi i = (r : EReal)) (ha : ∀ i, a i < ⊤) (hb : ∀ i, ∃ r : ℝ, b i = (r : EReal))
    (hc : ∀ i, ∃ r : ℝ, c i = (r : EReal)) (hdt : ∀ i, ∃ r : ℝ, dt i = (r : EReal)) :
    ∃ lam co w, Inputs x wi bi a b c dt lam co w := by
  choose x' hx using hx
  choose wi' hwi using hwi
  choose bi' hbi using hbi
  choose e' he using fun i => exp_real (ha i)
  choose b' hb using hb
  choose c' hc using hc
  choose dt' hdt using hdt
  refine ⟨fun d n => (0 - e' (ix2 d n)) * dt' (ix1 d), fun d n => b' (ix2 d n) * c' (ix2 d n) * dt' (ix1 d),
    fun d q l => if h : q < 4 ∧ l < 2048 then ∑ k : Fin 512, wi' (ix2 d k) * x' (ix3 ⟨q, h.1⟩ ⟨l, h.2⟩ k) + bi' (ix1 d) else 0,
    fun d n => ?_, fun d n => ?_, fun d q l => ?_⟩
  · rw [he, hdt, EReal.coe_mul, EReal.coe_sub, EReal.coe_zero]
  · rw [hb, hc, hdt, EReal.coe_mul, EReal.coe_mul]
  · rw [dif_pos ⟨q.isLt, l.isLt⟩, EReal.coe_add, coe_sum, hbi]
    refine congrArg (· + _) (Finset.sum_congr rfl fun k _ => ?_)
    rw [hwi, hx, EReal.coe_mul]

/-- The precondition gives real rates, coefficients and sequences. -/
theorem inputs_of_pre [Facts] (x : FVec Ideal S4x2048x512 .f32) (wi : FVec Ideal S512x512 .f32) (bi : FVec Ideal S512 .f32)
    (a b c : FVec Ideal S512x64 .f32) (D dt : FVec Ideal S512 .f32) (wo : FVec Ideal S512x512 .f32) (bo : FVec Ideal S512 .f32)
    (h0 : (fn x wi bi a b c D dt wo bo).1 = fun _ => 1#1) (h1 : (fn x wi bi a b c D dt wo bo).2.1 = fun _ => 1#1)
    (h2 : (fn x wi bi a b c D dt wo bo).2.2.1 = fun _ => 1#1) (h3 : (fn x wi bi a b c D dt wo bo).2.2.2.1 = fun _ => 1#1)
    (h4 : (fn x wi bi a b c D dt wo bo).2.2.2.2.1 = fun _ => 1#1) (h5 : (fn x wi bi a b c D dt wo bo).2.2.2.2.2.1 = fun _ => 1#1)
    (h6 : (fn x wi bi a b c D dt wo bo).2.2.2.2.2.2 = fun _ => 1#1) : ∃ lam co w, Inputs x wi bi a b c dt lam co w :=
  inputs_of_real (fun i => real_of_cmp (congrFun h0 i)) (fun i => real_of_cmp (congrFun h1 i))
    (fun i => real_of_cmp (congrFun h2 i)) (fun i => lt_of_cmp (congrFun h3 i)) (fun i => real_of_cmp (congrFun h4 i))
    (fun i => real_of_cmp (congrFun h5 i)) (fun i => real_of_cmp (congrFun h6 i))

end Cert.Ssm

end
-- ==== Proof.lean ====
/-
  The proof of `Cert.Claim`: the programs' runs leave their arguments as launched and end at rest, and under the
  precondition the kernel and the reference leave the same result array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.ReferenceIdeal.Run
public import proofs.«01_k».proof.Proof.KernelVal
public import proofs.«01_k».proof.Proof.RefVal
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- The reference's runs leave its arguments as launched and end at rest: it has no semaphore. -/
theorem reference_quiescent : quiescent_ReferenceIdeal (hReferenceIdeal := Cert.ReferenceIdeal.Gen.facts) := fun m g _ =>
  θ_run_mono (Cert.ReferenceIdeal.Value.run m g) fun r h => ⟨fun c => (h c).2, sem_eq_zero_of_no_sems (by decide) r.2⟩

/-- The kernel and the reference leave the same result array. -/
theorem same_result : algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hargs
  have hin := fun c => by
    obtain ⟨h0, h1, h2, h3, h4, h5, h6⟩ := hpre c
    exact Cert.Ssm.inputs_of_pre _ _ _ _ _ _ _ _ _ _ h0 h1 h2 h3 h4 h5 h6
  choose lam co w H using hin
  refine ⟨fun c => Cert.Ssm.result (m (c.tc.loc Cert.KernelIdeal.main_arg6)) (m (c.tc.loc Cert.KernelIdeal.main_arg8))
      (m (c.tc.loc Cert.KernelIdeal.main_arg9)) (lam c) (co c) (w c),
    θ_run_mono (Cert.KernelIdeal.KRun.run m g) fun r h c =>
      ⟨(h c).1.trans (Cert.KernelIdeal.KernelVal.out_eq g (H c)), (h c).2⟩,
    θ_run_mono (Cert.ReferenceIdeal.Value.run m' g') fun r h c => ⟨(h c).1.trans ?_, (h c).2⟩⟩
  obtain ⟨e0, e1, e2, e3, e4, e5, e6, e7, e8, e9⟩ := hargs c
  have H' := H c
  rw [← e0, ← e1, ← e2, ← e3, ← e4, ← e5, ← e7] at H'
  have e := Cert.ReferenceIdeal.RefVal.out_eq m' c H'
  rw [e6, e8, e9] at e
  exact e

/-- The certificate's claims. -/
theorem claim : Cert.Claim :=
  ⟨Cert.Kernel.Gen.facts, Cert.KernelIdeal.Gen.facts, Cert.ReferenceIdeal.Gen.facts, Cert.Pre_finite_inputs.Gen.facts,
    fun m g _ => Cert.Kernel.Gen.frame m g, fun m g _ => Cert.KernelIdeal.Gen.frame m g,
    fun m g _ => Cert.KernelIdeal.Gen.frame m g, reference_quiescent, fun m g _ => reference_quiescent m g trivial,
    trivial, same_result⟩

end Cert.Proof

end
